-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "mask" .f32 0xF149F2CA#32 ⊥

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_v78) = v1 c
          ∧ r.2.mem ((c.tc : Thread Cert.Reference2Ideal.nD Cert.Reference2Ideal.τ).loc Cert.Reference2Ideal.main_v81) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_v9) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v42) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v34) = v0 c
          ∧ r.2.mem ((c.tc : Thread Cert.Reference15Ideal.nD Cert.Reference15Ideal.τ).loc Cert.Reference15Ideal.main_v36) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v48) = v0 c
          ∧ r.2.mem ((c.tc : Thread Cert.Reference25Ideal.nD Cert.Reference25Ideal.τ).loc Cert.Reference25Ideal.main_v49) = v1 c
          ∧ r.2.mem ((c.tc : Thread Cert.Reference25Ideal.nD Cert.Reference25Ideal.τ).loc Cert.Reference25Ideal.main_v51) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v1_0)) (v1 : (c : Dev Cert.Kernel26Ideal.nD) → Buf (Elt Ideal) ((c.tc : Thread Cert.Kernel26Ideal.nD Cert.Kernel26Ideal.τ).loc Cert.Kernel26Ideal.main_v1_1)) (v2 : (c : Dev Cert.Kernel26Ideal.nD) → Buf (Elt Ideal) ((c.tc : Thread Cert.Kernel26Ideal.nD Cert.Kernel26Ideal.τ).loc Cert.Kernel26Ideal.main_v1_2)) (v3 : (c : Dev Cert.Kernel26Ideal.nD) → Buf (Elt Ideal) ((c.tc : Thread Cert.Kernel26Ideal.nD Cert.Kernel26Ideal.τ).loc Cert.Kernel26Ideal.main_v1_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1_0) = v0 c
          ∧ r.2.mem ((c.tc : Thread Cert.Kernel26Ideal.nD Cert.Kernel26Ideal.τ).loc Cert.Kernel26Ideal.main_v1_1) = v1 c
          ∧ r.2.mem ((c.tc : Thread Cert.Kernel26Ideal.nD Cert.Kernel26Ideal.τ).loc Cert.Kernel26Ideal.main_v1_2) = v2 c
          ∧ r.2.mem ((c.tc : Thread Cert.Kernel26Ideal.nD Cert.Kernel26Ideal.τ).loc Cert.Kernel26Ideal.main_v1_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v37) = v0 c
          ∧ r.2.mem ((c.tc : Thread Cert.Reference26Ideal.nD Cert.Reference26Ideal.τ).loc Cert.Reference26Ideal.main_v61) = v1 c
          ∧ r.2.mem ((c.tc : Thread Cert.Reference26Ideal.nD Cert.Reference26Ideal.τ).loc Cert.Reference26Ideal.main_v42) = v2 c
          ∧ r.2.mem ((c.tc : Thread Cert.Reference26Ideal.nD Cert.Reference26Ideal.τ).loc Cert.Reference26Ideal.main_v48) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite.lean ====
abbrev S8192x1024 : Shape := ⟨2, ![8192, 1024]⟩
abbrev S3072x1024 : Shape := ⟨2, ![3072, 1024]⟩
abbrev S8192x3072 : Shape := ⟨2, ![8192, 3072]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S3072x1024 : S_.BroadcastsInDim S3072x1024 (![] : Fin 0 → Fin S3072x1024.rank)
  bcast_S_S8192x3072 : S_.BroadcastsInDim S8192x3072 (![] : Fin 0 → Fin S8192x3072.rank)

variable [Facts]

def fn {F : FTy → Type} [FloatOps F] (main_arg0 : FVec F S8192x1024 .f32) (main_arg1 : FVec F S3072x1024 .bf16) (main_arg2 : FVec F S8192x3072 .bf16) (main_arg3 : FVec F S8192x3072 .bf16) : IVec S8192x1024 1 × IVec S3072x1024 1 × IVec S8192x3072 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S3072x1024 .f32 := (extf .f32 · bitsLt_bf16_f32) main_arg1
  let main_v4 : FVec F S3072x1024 .f32 := Host.absf main_v3
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_v7 : FVec F S8192x3072 .f32 := (extf .f32 · bitsLt_bf16_f32) main_arg3
  let main_v8 : FVec F S8192x3072 .f32 := Host.absf main_v7
  let main_cst_1 : FVec F S_ .f32 := constant S_ .f32 0x7F800000#32
  let main_v9 : FVec F S8192x3072 .f32 := broadcastInDim S8192x3072 ![] bcast_S_S8192x3072 main_cst_1
  let main_v10 : IVec S8192x3072 1 := cmpf .olt main_v8 main_v9
  (main_v2, main_v6, main_v10)
-- ==== Kernel.lean ====
abbrev S8192x1024 : Shape := ⟨2, ![8192, 1024]⟩
abbrev S3072x1024 : Shape := ⟨2, ![3072, 1024]⟩
abbrev S8192x3072 : Shape := ⟨2, ![8192, 3072]⟩
abbrev S1024x3072 : Shape := ⟨2, ![1024, 3072]⟩
abbrev S512x1024 : Shape := ⟨2, ![512, 1024]⟩
abbrev S1024x1536 : Shape := ⟨2, ![1024, 1536]⟩
abbrev S512x1536 : Shape := ⟨2, ![512, 1536]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S3072x1024, .bf16⟩
  | .hbm, ⟨2, _⟩ => ⟨S8192x3072, .bf16⟩
  | .hbm, ⟨3, _⟩ => ⟨S8192x3072, .bf16⟩
  | .hbm, ⟨4, _⟩ => ⟨S1024x3072, .bf16⟩
  | .hbm, ⟨5, _⟩ => ⟨S8192x3072, .bf16⟩
  | .hbm, ⟨6, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S1024x1536, .bf16⟩
  | .local _ .vmem, ⟨3, _⟩ => ⟨S1024x1536, .bf16⟩
  | .local _ .vmem, ⟨4, _⟩ => ⟨S512x1536, .bf16⟩
  | .local _ .vmem, ⟨5, _⟩ => ⟨S512x1536, .bf16⟩
  | .local _ .vmem, ⟨6, _⟩ => ⟨S512x1536, .bf16⟩
  | .local _ .vmem, ⟨7, _⟩ => ⟨S512x1536, .bf16⟩
  | .local _ .vmem, ⟨8, _⟩ => ⟨S512x1536, .bf16⟩
  | .local _ .vmem, ⟨9, _⟩ => ⟨S512x1536, .bf16⟩
  | .local _ .vmem, ⟨10, _⟩ => ⟨S512x1536, .bf16⟩
  | .local _ .vmem, ⟨11, _⟩ => ⟨S512x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8192x1024 : Shape := ⟨2, ![8192, 1024]⟩
abbrev S3072x1024 : Shape := ⟨2, ![3072, 1024]⟩
abbrev S8192x3072 : Shape := ⟨2, ![8192, 3072]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S3072x1024, .bf16⟩
  | .hbm, ⟨2, _⟩ => ⟨S8192x3072, .bf16⟩
  | .hbm, ⟨3, _⟩ => ⟨S8192x3072, .bf16⟩
  | .hbm, ⟨4, _⟩ => ⟨S8192x3072, .f32⟩
  | .hbm, ⟨5, _⟩ => ⟨S8192x3072, .f32⟩
  | .hbm, ⟨6, _⟩ => ⟨S8192x3072, .f32⟩
  | .hbm, ⟨7, _⟩ => ⟨S_, .f32⟩
  | .hbm, ⟨8, _⟩ => ⟨S8192x3072, .f32⟩
  | .hbm, ⟨9, _⟩ => ⟨S8192x3072, .f32⟩
  | .hbm, ⟨10, _⟩ => ⟨S_, .f32⟩
  | .hbm, ⟨11, _⟩ => ⟨S8192x3072, .f32⟩
  | .hbm, ⟨12, _⟩ => ⟨S8192x3072, .f32⟩
  | .hbm, ⟨13, _⟩ => ⟨S_, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S8192x3072, .f32⟩
  | .hbm, ⟨20, _⟩ => ⟨S3072x1024, .f32⟩
  | .hbm, ⟨21, _⟩ => ⟨S8192x1024, .f32⟩
  | .hbm, ⟨22, _⟩ => ⟨S8192x3072, .f32⟩
  | .hbm, ⟨23, _⟩ => ⟨S8192x3072, .f32⟩
  | .hbm, ⟨24, _⟩ => ⟨S8192x3072, .f32⟩
  | .hbm, ⟨25, _⟩ => ⟨S8192x3072, .bf16⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel2.lean ====
abbrev S8192x1536 : Shape := ⟨2, ![8192, 1536]⟩
abbrev S8192x512 : Shape := ⟨2, ![8192, 512]⟩
abbrev S8192x128 : Shape := ⟨2, ![8192, 128]⟩
abbrev S512x24576 : Shape := ⟨2, ![512, 24576]⟩
abbrev S512x8192 : Shape := ⟨2, ![512, 8192]⟩
abbrev S512x2048 : Shape := ⟨2, ![512, 2048]⟩
abbrev S512x512 : Shape := ⟨2, ![512, 512]⟩
abbrev S128x512 : Shape := ⟨2, ![128, 512]⟩
abbrev S512x128 : Shape := ⟨2, ![512, 128]⟩
abbrev S128x128 : Shape := ⟨2, ![128, 128]⟩
abbrev S256x128 : Shape := ⟨2, ![256, 128]⟩
abbrev S256x1 : Shape := ⟨2, ![256, 1]⟩

abbrev nBuf : Space → Nat
  | .hbm => 11
  | .vmem => 27
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x128, .f32⟩
  | .hbm, ⟨3, _⟩ => ⟨S8192x128, .f32⟩
  | .hbm, ⟨4, _⟩ => ⟨S512x24576, .bf16⟩
  | .hbm, ⟨5, _⟩ => ⟨S512x8192, .bf16⟩
  | .hbm, ⟨6, _⟩ => ⟨S512x2048, .f32⟩
  | .hbm, ⟨7, _⟩ => ⟨S512x2048, .f32⟩
  | .hbm, ⟨8, _⟩ => ⟨S512x8192, .bf16⟩
  | .hbm, ⟨9, _⟩ => ⟨S512x8192, .bf16⟩
  | .hbm, ⟨10, _⟩ => ⟨S512x8192, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S128x512, .bf16⟩
  | .local _ .vmem, ⟨7, _⟩ => ⟨S128x512, .bf16⟩
  | .local _ .vmem, ⟨8, _⟩ => ⟨S512x512, .bf16⟩
  | .local _ .vmem, ⟨9, _⟩ => ⟨S512x512, .bf16⟩
  | .local _ .vmem, ⟨10, _⟩ => ⟨S128x512, .bf16⟩
  | .local _ .vmem, ⟨11, _⟩ => ⟨S128x512, .bf16⟩
  | .local _ .vmem, ⟨12, _⟩ => ⟨S512x128, .f32⟩
  | .local _ .vmem, ⟨13, _⟩ => ⟨S512x128, .f32⟩
  | .local _ .vmem, ⟨14, _⟩ => ⟨S128x128, .f32⟩
  | .local _ .vmem, ⟨15, _⟩ => ⟨S128x128, .f32⟩
  | .local _ .vmem, ⟨16, _⟩ => ⟨S512x128, .f32⟩
  | .local _ .vmem, ⟨17, _⟩ => ⟨S512x128, .f32⟩
  | .local _ .vmem, ⟨18, _⟩ => ⟨S128x128, .f32⟩
  | .local _ .vmem, ⟨19, _⟩ => ⟨S128x128, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S128x512, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c1_i32 : BitVec 32 := 1#32
  let v1 : BitVec 32 := Scalar.addi v0 c1_i32
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c2_i32 : BitVec 32 := 2#32
  let v1 : BitVec 32 := Scalar.addi v0 c2_i32
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c3_i32 : BitVec 32 := 3#32
  let v2 : BitVec 32 := Scalar.minsi v1 c3_i32
  let c3_i32_0 : BitVec 32 := 3#32
  let v3 : BitVec 32 := Scalar.muli c3_i32_0 arg0
  let c0_i32 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c3_i32 : BitVec 32 := 3#32
  let v2 : BitVec 32 := Scalar.minsi v1 c3_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c3_i32 : BitVec 32 := 3#32
  let v2 : BitVec 32 := Scalar.minsi v1 c3_i32
  let c0_i32 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c3_i32 : BitVec 32 := 3#32
  let v2 : BitVec 32 := Scalar.minsi v1 c3_i32
  let c0_i32 : BitVec 32 := 0#32
  ![v2.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel2Ideal.lean ====
variable {F : FTy → Type} [FloatOps F] [Named F]
def κ : String → Option EReal := fun
  | "mask" => some ⊥
  | _ => none
-- ==== Reference2Ideal.lean ====
abbrev S8192x1536 : Shape := ⟨2, ![8192, 1536]⟩
abbrev S8192x512 : Shape := ⟨2, ![8192, 512]⟩
abbrev S8192x128 : Shape := ⟨2, ![8192, 128]⟩
abbrev S8 : Shape := ⟨1, ![8]⟩
abbrev S_ : Shape := ⟨0, ![]⟩
abbrev S512x16x8x64 : Shape := ⟨4, ![512, 16, 8, 64]⟩
abbrev S16x8x512x64 : Shape := ⟨4, ![16, 8, 512, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16x8x512x512 : Shape := ⟨4, ![16, 8, 512, 512]⟩
abbrev S8x1x1 : Shape := ⟨3, ![8, 1, 1]⟩
abbrev S1x512x512 : Shape := ⟨3, ![1, 512, 512]⟩
abbrev S8x512x512 : Shape := ⟨3, ![8, 512, 512]⟩
abbrev S1x8x512x512 : Shape := ⟨4, ![1, 8, 512, 512]⟩
abbrev S8192x8 : Shape := ⟨2, ![8192, 8]⟩
abbrev S512x16x8x1 : Shape := ⟨4, ![512, 16, 8, 1]⟩
abbrev S16x8x512x1 : Shape := ⟨4, ![16, 8, 512, 1]⟩
abbrev S16x8x512 : Shape := ⟨3, ![16, 8, 512]⟩
abbrev S16x8x64x512 : Shape := ⟨4, ![16, 8, 64, 512]⟩
abbrev S512x8192 : Shape := ⟨2, ![512, 8192]⟩

abbrev nBuf : Space → Nat
  | .hbm => 103
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x128, .f32⟩
  | .hbm, ⟨3, _⟩ => ⟨S8192x128, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8192x512, .bf16⟩
  | .hbm, ⟨13, _⟩ => ⟨S8192x512, .bf16⟩
  | .hbm, ⟨14, _⟩ => ⟨S8192x512, .bf16⟩
  | .hbm, ⟨15, _⟩ => ⟨S8192x512, .f32⟩
  | .hbm, ⟨16, _⟩ => ⟨S512x16x8x64, .f32⟩
  | .hbm, ⟨17, _⟩ => ⟨S16x8x512x64, .f32⟩
  | .hbm, ⟨18, _⟩ => ⟨S8192x512, .f32⟩
  | .hbm, ⟨19, _⟩ => ⟨S512x16x8x64, .f32⟩
  | .hbm, ⟨20, _⟩ => ⟨S16x8x512x64, .f32⟩
  | .hbm, ⟨21, _⟩ => ⟨S8192x512, .f32⟩
  | .hbm, ⟨22, _⟩ => ⟨S512x16x8x64, .f32⟩
  | .hbm, ⟨23, _⟩ => ⟨S16x8x512x64, .f32⟩
  | .hbm, ⟨24, _⟩ => ⟨S512, .i32⟩
  | .hbm, ⟨25, _⟩ => ⟨S512x1, .i32⟩
  | .hbm, ⟨26, _⟩ => ⟨S512, .i32⟩
  | .hbm, ⟨27, _⟩ => ⟨S1x512, .i32⟩
  | .hbm, ⟨28, _⟩ => ⟨S512x512, .i32⟩
  | .hbm, ⟨29, _⟩ => ⟨S512x512, .i32⟩
  | .hbm, ⟨30, _⟩ => ⟨S512x512, .i32⟩
  | .hbm, ⟨31, _⟩ => ⟨S_, .i32⟩
  | .hbm, ⟨32, _⟩ => ⟨S512x512, .i32⟩
  | .hbm, ⟨33, _⟩ => ⟨S512x512, .i1⟩
  | .hbm, ⟨34, _⟩ => ⟨S_, .i32⟩
  | .hbm, ⟨35, _⟩ => ⟨S512x512, .i32⟩
  | .hbm, ⟨36, _⟩ => ⟨S512x512, .i1⟩
  | .hbm, ⟨37, _⟩ => ⟨S512x512, .i1⟩
  | .hbm, ⟨38, _⟩ => ⟨S16x8x512x512, .f32⟩
  | .hbm, ⟨39, _⟩ => ⟨S_, .f32⟩
  | .hbm, ⟨40, _⟩ => ⟨S16x8x512x512, .f32⟩
  | .hbm, ⟨41, _⟩ => ⟨S16x8x512x512, .f32⟩
  | .hbm, ⟨42, _⟩ => ⟨S8x1x1, .f32⟩
  | .hbm, ⟨43, _⟩ => ⟨S_, .i32⟩
  | .hbm, ⟨44, _⟩ => ⟨S512x512, .i32⟩
  | .hbm, ⟨45, _⟩ => ⟨S512x512, .i32⟩
  | .hbm, ⟨46, _⟩ => ⟨S512x512, .f32⟩
  | .hbm, ⟨47, _⟩ => ⟨S1x512x512, .f32⟩
  | .hbm, ⟨48, _⟩ => ⟨S8x512x512, .f32⟩
  | .hbm, ⟨49, _⟩ => ⟨S8x512x512, .f32⟩
  | .hbm, ⟨50, _⟩ => ⟨S8x512x512, .f32⟩
  | .hbm, ⟨51, _⟩ => ⟨S1x8x512x512, .f32⟩
  | .hbm, ⟨52, _⟩ => ⟨S16x8x512x512, .f32⟩
  | .hbm, ⟨53, _⟩ => ⟨S16x8x512x512, .f32⟩
  | .hbm, ⟨54, _⟩ => ⟨S_, .f32⟩
  | .hbm, ⟨55, _⟩ => ⟨S_, .f32⟩
  | .hbm, ⟨56, _⟩ => ⟨S16x8x512x512, .i1⟩
  | .hbm, ⟨57, _⟩ => ⟨S16x8x512x512, .f32⟩
  | .hbm, ⟨58, _⟩ => ⟨S16x8x512x512, .f32⟩
  | .hbm, ⟨59, _⟩ => ⟨S_, .f32⟩
  | .hbm, ⟨60, _⟩ => ⟨S16x8x512x512, .f32⟩
  | .hbm, ⟨61, _⟩ => ⟨S8192x8, .f32⟩
  | .hbm, ⟨62, _⟩ => ⟨S512x16x8x1, .f32⟩
  | .hbm, ⟨63, _⟩ => ⟨S16x8x512x1, .f32⟩
  | .hbm, ⟨64, _⟩ => ⟨S16x8x512x512, .f32⟩
  | .hbm, ⟨65, _⟩ => ⟨S16x8x512x512, .f32⟩
  | .hbm, ⟨66, _⟩ => ⟨S16x8x512x512, .f32⟩
  | .hbm, ⟨67, _⟩ => ⟨S16x8x512x64, .f32⟩
  | .hbm, ⟨68, _⟩ => ⟨S_, .f32⟩
  | .hbm, ⟨69, _⟩ => ⟨S16x8x512, .f32⟩
  | .hbm, ⟨70, _⟩ => ⟨S16x8x512x1, .f32⟩
  | .hbm, ⟨71, _⟩ => ⟨S8192x512, .f32⟩
  | .hbm, ⟨72, _⟩ => ⟨S512x16x8x64, .f32⟩
  | .hbm, ⟨73, _⟩ => ⟨S16x8x512x64, .f32⟩
  | .hbm, ⟨74, _⟩ => ⟨S8192x8, .f32⟩
  | .hbm, ⟨75, _⟩ => ⟨S512x16x8x1, .f32⟩
  | .hbm, ⟨76, _⟩ => ⟨S16x8x512x1, .f32⟩
  | .hbm, ⟨77, _⟩ => ⟨S16x8x512x1, .f32⟩
  | .hbm, ⟨78, _⟩ => ⟨S_, .f32⟩
  | .hbm, ⟨79, _⟩ => ⟨S16x8x512, .f32⟩
  | .hbm, ⟨80, _⟩ => ⟨S16x8x512x512, .f32⟩
  | .hbm, ⟨81, _⟩ => ⟨S16x8x64x512, .f32⟩
  | .hbm, ⟨82, _⟩ => ⟨S16x8x512x64, .f32⟩
  | .hbm, ⟨83, _⟩ => ⟨S16x8x512x512, .f32⟩
  | .hbm, ⟨84, _⟩ => ⟨S16x8x512x512, .f32⟩
  | .hbm, ⟨85, _⟩ => ⟨S16x8x512x512, .f32⟩
  | .hbm, ⟨86, _⟩ => ⟨S_, .f32⟩
  | .hbm, ⟨87, _⟩ => ⟨S16x8x512x512, .f32⟩
  | .hbm, ⟨88, _⟩ => ⟨S16x8x512x512, .f32⟩
  | .hbm, ⟨89, _⟩ => ⟨S_, .f32⟩
  | .hbm, ⟨90, _⟩ => ⟨S16x8x512x512, .f32⟩
  | .hbm, ⟨91, _⟩ => ⟨S16x8x512x512, .f32⟩
  | .hbm, ⟨92, _⟩ => ⟨S16x8x512x64, .f32⟩
  | .hbm, ⟨93, _⟩ => ⟨S16x8x512x64, .f32⟩
  | .hbm, ⟨94, _⟩ => ⟨S512x16x8x64, .f32⟩
  | .hbm, ⟨95, _⟩ => ⟨S512x8192, .f32⟩
  | .hbm, ⟨96, _⟩ => ⟨S512x8192, .bf16⟩
  | .hbm, ⟨97, _⟩ => ⟨S512x16x8x64, .f32⟩
  | .hbm, ⟨98, _⟩ => ⟨S512x8192, .f32⟩
  | .hbm, ⟨99, _⟩ => ⟨S512x8192, .bf16⟩
  | .hbm, ⟨100, _⟩ => ⟨S512x16x8x64, .f32⟩
  | .hbm, ⟨101, _⟩ => ⟨S512x8192, .f32⟩
  | .hbm, ⟨102, _⟩ => ⟨S512x8192, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_0 : Ref sig .tc := ⟨.hbm, 31, rfl⟩
abbrev main_v25 : Ref sig .tc := ⟨.hbm, 32, rfl⟩
abbrev main_v26 : Ref sig .tc := ⟨.hbm, 33, rfl⟩
abbrev main_c_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_call0_v0 : Ref sig .tc := ⟨.hbm, 55, rfl⟩
abbrev main_v44_1 : Ref sig .tc := ⟨.hbm, 56, rfl⟩
abbrev main_call0_v2 : Ref sig .tc := ⟨.hbm, 57, rfl⟩
abbrev main_v44_0 : Ref sig .tc := ⟨.hbm, 58, rfl⟩
abbrev main_call0_cst : Ref sig .tc := ⟨.hbm, 59, rfl⟩
abbrev main_v44_2 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_6 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_call1_cst : Ref sig .tc := ⟨.hbm, 86, rfl⟩
abbrev main_call1_v0 : Ref sig .tc := ⟨.hbm, 87, rfl⟩
abbrev main_v68 : Ref sig .tc := ⟨.hbm, 88, rfl⟩
abbrev main_cst_7 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩

abbrev nD : Nat := 1
abbrev τ : Topo := Topo.v7x

variable {F : FTy → Type} [FloatOps F]
-- ==== Kernel3.lean ====
abbrev S8192x3072 : Shape := ⟨2, ![8192, 3072]⟩
abbrev S8192x1024 : Shape := ⟨2, ![8192, 1024]⟩
abbrev S3072x1024 : Shape := ⟨2, ![3072, 1024]⟩
abbrev S1024x1536 : Shape := ⟨2, ![1024, 1536]⟩
abbrev S1024x1024 : Shape := ⟨2, ![1024, 1024]⟩
abbrev S1536x1024 : Shape := ⟨2, ![1536, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S3072x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1024, .f32⟩
  | .local _ .vmem, ⟨3, _⟩ => ⟨S1024x1024, .f32⟩
  | .local _ .vmem, ⟨4, _⟩ => ⟨S1536x1024, .f32⟩
  | .local _ .vmem, ⟨5, _⟩ => ⟨S1536x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S_, .f32⟩
  | .hbm, ⟨3, _⟩ => ⟨S3072x1024, .f32⟩
  | .hbm, ⟨4, _⟩ => ⟨S8192x3072, .f32⟩
  | .hbm, ⟨5, _⟩ => ⟨S8192x1024, .f32⟩
  | .hbm, ⟨6, _⟩ => ⟨S1024x3072, .f32⟩
  | .hbm, ⟨7, _⟩ => ⟨S3072x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x3072 : Shape := ⟨2, ![8192, 3072]⟩
abbrev S1024x3072 : Shape := ⟨2, ![1024, 3072]⟩
abbrev S3072x1024 : Shape := ⟨2, ![3072, 1024]⟩
abbrev S8192x1024 : Shape := ⟨2, ![8192, 1024]⟩
abbrev S512x3072 : Shape := ⟨2, ![512, 3072]⟩
abbrev S3072x512 : Shape := ⟨2, ![3072, 512]⟩
abbrev S512x512 : Shape := ⟨2, ![512, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S1024x3072, .bf16⟩
  | .hbm, ⟨3, _⟩ => ⟨S1024x3072, .bf16⟩
  | .hbm, ⟨4, _⟩ => ⟨S3072x1024, .bf16⟩
  | .hbm, ⟨5, _⟩ => ⟨S3072x1024, .bf16⟩
  | .hbm, ⟨6, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S512x3072, .bf16⟩
  | .local _ .vmem, ⟨3, _⟩ => ⟨S512x3072, .bf16⟩
  | .local _ .vmem, ⟨4, _⟩ => ⟨S3072x512, .bf16⟩
  | .local _ .vmem, ⟨5, _⟩ => ⟨S3072x512, .bf16⟩
  | .local _ .vmem, ⟨6, _⟩ => ⟨S3072x512, .bf16⟩
  | .local _ .vmem, ⟨7, _⟩ => ⟨S3072x512, .bf16⟩
  | .local _ .vmem, ⟨8, _⟩ => ⟨S512x512, .f32⟩
  | .local _ .vmem, ⟨9, _⟩ => ⟨S512x512, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3072x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3072x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x3072 : Shape := ⟨2, ![8192, 3072]⟩
abbrev S1024x3072 : Shape := ⟨2, ![1024, 3072]⟩
abbrev S_ : Shape := ⟨0, ![]⟩
abbrev S8192x1024 : Shape := ⟨2, ![8192, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S1024x3072, .bf16⟩
  | .hbm, ⟨3, _⟩ => ⟨S1024x3072, .bf16⟩
  | .hbm, ⟨4, _⟩ => ⟨S_, .f32⟩
  | .hbm, ⟨5, _⟩ => ⟨S8192x1024, .f32⟩
  | .hbm, ⟨6, _⟩ => ⟨S1024x3072, .f32⟩
  | .hbm, ⟨7, _⟩ => ⟨S8192x3072, .f32⟩
  | .hbm, ⟨8, _⟩ => ⟨S1024x3072, .f32⟩
  | .hbm, ⟨9, _⟩ => ⟨S8192x3072, .f32⟩
  | .hbm, ⟨10, _⟩ => ⟨S8192x3072, .f32⟩
  | .hbm, ⟨11, _⟩ => ⟨S8192x3072, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel6.lean ====
abbrev S8192x1024 : Shape := ⟨2, ![8192, 1024]⟩
abbrev S1024x3072 : Shape := ⟨2, ![1024, 3072]⟩
abbrev S8192x3072 : Shape := ⟨2, ![8192, 3072]⟩
abbrev S512x1024 : Shape := ⟨2, ![512, 1024]⟩
abbrev S1024x1536 : Shape := ⟨2, ![1024, 1536]⟩
abbrev S512x1536 : Shape := ⟨2, ![512, 1536]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S1024x3072, .bf16⟩
  | .hbm, ⟨3, _⟩ => ⟨S8192x3072, .bf16⟩
  | .hbm, ⟨4, _⟩ => ⟨S8192x3072, .bf16⟩
  | .hbm, ⟨5, _⟩ => ⟨S8192x3072, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S512x1536, .bf16⟩
  | .local _ .vmem, ⟨7, _⟩ => ⟨S512x1536, .bf16⟩
  | .local _ .vmem, ⟨8, _⟩ => ⟨S512x1536, .bf16⟩
  | .local _ .vmem, ⟨9, _⟩ => ⟨S512x1536, .bf16⟩
  | .local _ .vmem, ⟨10, _⟩ => ⟨S512x1536, .bf16⟩
  | .local _ .vmem, ⟨11, _⟩ => ⟨S512x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x1024 : Shape := ⟨2, ![8192, 1024]⟩
abbrev S1024x3072 : Shape := ⟨2, ![1024, 3072]⟩
abbrev S8192x3072 : Shape := ⟨2, ![8192, 3072]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S1024x3072, .bf16⟩
  | .hbm, ⟨3, _⟩ => ⟨S8192x1024, .f32⟩
  | .hbm, ⟨4, _⟩ => ⟨S1024x3072, .f32⟩
  | .hbm, ⟨5, _⟩ => ⟨S8192x3072, .f32⟩
  | .hbm, ⟨6, _⟩ => ⟨S1024x3072, .f32⟩
  | .hbm, ⟨7, _⟩ => ⟨S8192x3072, .f32⟩
  | .hbm, ⟨8, _⟩ => ⟨S8192x3072, .f32⟩
  | .hbm, ⟨9, _⟩ => ⟨S8192x3072, .f32⟩
  | .hbm, ⟨10, _⟩ => ⟨S_, .f32⟩
  | .hbm, ⟨11, _⟩ => ⟨S8192x3072, .f32⟩
  | .hbm, ⟨12, _⟩ => ⟨S8192x3072, .f32⟩
  | .hbm, ⟨13, _⟩ => ⟨S_, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S8192x3072, .bf16⟩
  | .hbm, ⟨19, _⟩ => ⟨S8192x3072, .bf16⟩
  | .hbm, ⟨20, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel7.lean ====
abbrev S8192x3072 : Shape := ⟨2, ![8192, 3072]⟩
abbrev S3072x1024 : Shape := ⟨2, ![3072, 1024]⟩
abbrev S8192x1024 : Shape := ⟨2, ![8192, 1024]⟩
abbrev S512x3072 : Shape := ⟨2, ![512, 3072]⟩
abbrev S3072x512 : Shape := ⟨2, ![3072, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S3072x512, .bf16⟩
  | .local _ .vmem, ⟨3, _⟩ => ⟨S3072x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8192x3072 : Shape := ⟨2, ![8192, 3072]⟩
abbrev S3072x1024 : Shape := ⟨2, ![3072, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S8192x3072, .f32⟩
  | .hbm, ⟨4, _⟩ => ⟨S3072x1024, .f32⟩
  | .hbm, ⟨5, _⟩ => ⟨S8192x1024, .f32⟩
  | .hbm, ⟨6, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x512 : Shape := ⟨2, ![8192, 512]⟩
abbrev S8192x1024 : Shape := ⟨2, ![8192, 1024]⟩
abbrev S8192x128 : Shape := ⟨2, ![8192, 128]⟩
abbrev S1024x4224 : Shape := ⟨2, ![1024, 4224]⟩
abbrev S4224x1024 : Shape := ⟨2, ![4224, 1024]⟩
abbrev S512x512 : Shape := ⟨2, ![512, 512]⟩
abbrev S512x1024 : Shape := ⟨2, ![512, 1024]⟩
abbrev S512x128 : Shape := ⟨2, ![512, 128]⟩
abbrev S4224x512 : Shape := ⟨2, ![4224, 512]⟩
abbrev S1024x512 : Shape := ⟨2, ![1024, 512]⟩
abbrev S128x512 : Shape := ⟨2, ![128, 512]⟩

abbrev nBuf : Space → Nat
  | .hbm => 11
  | .vmem => 20
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x1024, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x128, .f32⟩
  | .hbm, ⟨8, _⟩ => ⟨S1024x4224, .bf16⟩
  | .hbm, ⟨9, _⟩ => ⟨S4224x1024, .bf16⟩
  | .hbm, ⟨10, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x128, .f32⟩
  | .local _ .vmem, ⟨15, _⟩ => ⟨S512x128, .f32⟩
  | .local _ .vmem, ⟨16, _⟩ => ⟨S4224x512, .bf16⟩
  | .local _ .vmem, ⟨17, _⟩ => ⟨S4224x512, .bf16⟩
  | .local _ .vmem, ⟨18, _⟩ => ⟨S512x512, .f32⟩
  | .local _ .vmem, ⟨19, _⟩ => ⟨S512x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4224x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference8Ideal.lean ====
abbrev S8192x512 : Shape := ⟨2, ![8192, 512]⟩
abbrev S8192x1024 : Shape := ⟨2, ![8192, 1024]⟩
abbrev S8192x128 : Shape := ⟨2, ![8192, 128]⟩
abbrev S1024x4224 : Shape := ⟨2, ![1024, 4224]⟩
abbrev S_ : Shape := ⟨0, ![]⟩
abbrev S1024x512 : Shape := ⟨2, ![1024, 512]⟩
abbrev S1024x1024 : Shape := ⟨2, ![1024, 1024]⟩
abbrev S1024x128 : Shape := ⟨2, ![1024, 128]⟩

abbrev nBuf : Space → Nat
  | .hbm => 53
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x1024, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x128, .f32⟩
  | .hbm, ⟨8, _⟩ => ⟨S1024x4224, .bf16⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x1024, .f32⟩
  | .hbm, ⟨14, _⟩ => ⟨S1024x512, .bf16⟩
  | .hbm, ⟨15, _⟩ => ⟨S1024x512, .f32⟩
  | .hbm, ⟨16, _⟩ => ⟨S8192x512, .f32⟩
  | .hbm, ⟨17, _⟩ => ⟨S1024x512, .bf16⟩
  | .hbm, ⟨18, _⟩ => ⟨S1024x512, .f32⟩
  | .hbm, ⟨19, _⟩ => ⟨S8192x512, .f32⟩
  | .hbm, ⟨20, _⟩ => ⟨S1024x512, .bf16⟩
  | .hbm, ⟨21, _⟩ => ⟨S1024x512, .f32⟩
  | .hbm, ⟨22, _⟩ => ⟨S8192x512, .f32⟩
  | .hbm, ⟨23, _⟩ => ⟨S1024x1024, .bf16⟩
  | .hbm, ⟨24, _⟩ => ⟨S1024x1024, .f32⟩
  | .hbm, ⟨25, _⟩ => ⟨S8192x1024, .f32⟩
  | .hbm, ⟨26, _⟩ => ⟨S1024x512, .bf16⟩
  | .hbm, ⟨27, _⟩ => ⟨S1024x512, .f32⟩
  | .hbm, ⟨28, _⟩ => ⟨S8192x512, .f32⟩
  | .hbm, ⟨29, _⟩ => ⟨S1024x512, .bf16⟩
  | .hbm, ⟨30, _⟩ => ⟨S1024x512, .f32⟩
  | .hbm, ⟨31, _⟩ => ⟨S8192x512, .f32⟩
  | .hbm, ⟨32, _⟩ => ⟨S1024x512, .bf16⟩
  | .hbm, ⟨33, _⟩ => ⟨S1024x512, .f32⟩
  | .hbm, ⟨34, _⟩ => ⟨S8192x512, .f32⟩
  | .hbm, ⟨35, _⟩ => ⟨S1024x128, .bf16⟩
  | .hbm, ⟨36, _⟩ => ⟨S1024x128, .f32⟩
  | .hbm, ⟨37, _⟩ => ⟨S8192x128, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== Kernel9.lean ====
abbrev S8192x1024 : Shape := ⟨2, ![8192, 1024]⟩
abbrev S1024x1536 : Shape := ⟨2, ![1024, 1536]⟩
abbrev S8192x1536 : Shape := ⟨2, ![8192, 1536]⟩
abbrev S512x1024 : Shape := ⟨2, ![512, 1024]⟩
abbrev S1024x768 : Shape := ⟨2, ![1024, 768]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1536, .bf16⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S1024x768, .bf16⟩
  | .local _ .vmem, ⟨4, _⟩ => ⟨S512x768, .bf16⟩
  | .local _ .vmem, ⟨5, _⟩ => ⟨S512x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1024, .f32⟩
  | .hbm, ⟨3, _⟩ => ⟨S1024x1536, .f32⟩
  | .hbm, ⟨4, _⟩ => ⟨S8192x1536, .f32⟩
  | .hbm, ⟨5, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S8192x1024 : Shape := ⟨2, ![8192, 1024]⟩
abbrev S1024x2688 : Shape := ⟨2, ![1024, 2688]⟩
abbrev S8192x2688 : Shape := ⟨2, ![8192, 2688]⟩
abbrev S512x1024 : Shape := ⟨2, ![512, 1024]⟩
abbrev S1024x896 : Shape := ⟨2, ![1024, 896]⟩
abbrev S512x896 : Shape := ⟨2, ![512, 896]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2688, .bf16⟩
  | .hbm, ⟨2, _⟩ => ⟨S8192x2688, .f32⟩
  | .local _ .vmem, ⟨0, _⟩ => ⟨S512x1024, .bf16⟩
  | .local _ .vmem, ⟨1, _⟩ => ⟨S512x1024, .bf16⟩
  | .local _ .vmem, ⟨2, _⟩ => ⟨S1024x896, .bf16⟩
  | .local _ .vmem, ⟨3, _⟩ => ⟨S1024x896, .bf16⟩
  | .local _ .vmem, ⟨4, _⟩ => ⟨S512x896, .f32⟩
  | .local _ .vmem, ⟨5, _⟩ => ⟨S512x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x1024 : Shape := ⟨2, ![8192, 1024]⟩
abbrev S1024x2688 : Shape := ⟨2, ![1024, 2688]⟩
abbrev S8192x2688 : Shape := ⟨2, ![8192, 2688]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2688, .bf16⟩
  | .hbm, ⟨2, _⟩ => ⟨S8192x1024, .f32⟩
  | .hbm, ⟨3, _⟩ => ⟨S1024x2688, .f32⟩
  | .hbm, ⟨4, _⟩ => ⟨S8192x2688, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8192x1024 : Shape := ⟨2, ![8192, 1024]⟩
abbrev S1536x1024 : Shape := ⟨2, ![1536, 1024]⟩
abbrev S1024x1536 : Shape := ⟨2, ![1024, 1536]⟩
abbrev S1024x512 : Shape := ⟨2, ![1024, 512]⟩
abbrev S8192x512 : Shape := ⟨2, ![8192, 512]⟩
abbrev S512x1024 : Shape := ⟨2, ![512, 1024]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1536x1024, .bf16⟩
  | .hbm, ⟨2, _⟩ => ⟨S1024x1536, .bf16⟩
  | .hbm, ⟨3, _⟩ => ⟨S1024x512, .bf16⟩
  | .hbm, ⟨4, _⟩ => ⟨S8192x512, .bf16⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S512x512, .bf16⟩
  | .local _ .vmem, ⟨4, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8192x1024 : Shape := ⟨2, ![8192, 1024]⟩
abbrev S1536x1024 : Shape := ⟨2, ![1536, 1024]⟩
abbrev S_ : Shape := ⟨0, ![]⟩
abbrev S8192x512 : Shape := ⟨2, ![8192, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1536x1024, .bf16⟩
  | .hbm, ⟨2, _⟩ => ⟨S_, .f32⟩
  | .hbm, ⟨3, _⟩ => ⟨S8192x512, .f32⟩
  | .hbm, ⟨4, _⟩ => ⟨S512x1024, .bf16⟩
  | .hbm, ⟨5, _⟩ => ⟨S512x1024, .f32⟩
  | .hbm, ⟨6, _⟩ => ⟨S8192x1024, .f32⟩
  | .hbm, ⟨7, _⟩ => ⟨S8192x512, .f32⟩
  | .hbm, ⟨8, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S1536x1024 : Shape := ⟨2, ![1536, 1024]⟩
abbrev S1024x1536 : Shape := ⟨2, ![1024, 1536]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1536x1024, .bf16⟩
  | .hbm, ⟨2, _⟩ => ⟨S1024x1536, .bf16⟩
  | .hbm, ⟨3, _⟩ => ⟨S1024x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8192x1024 : Shape := ⟨2, ![8192, 1024]⟩
abbrev S1536x1024 : Shape := ⟨2, ![1536, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1536x1024, .bf16⟩
  | .hbm, ⟨2, _⟩ => ⟨S_, .f32⟩
  | .hbm, ⟨3, _⟩ => ⟨S8192x1024, .f32⟩
  | .hbm, ⟨4, _⟩ => ⟨S1024x1024, .bf16⟩
  | .hbm, ⟨5, _⟩ => ⟨S1024x1024, .f32⟩
  | .hbm, ⟨6, _⟩ => ⟨S8192x1024, .f32⟩
  | .hbm, ⟨7, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x512 : Shape := ⟨2, ![8192, 512]⟩
abbrev S1536x1024 : Shape := ⟨2, ![1536, 1024]⟩
abbrev S8192x1024 : Shape := ⟨2, ![8192, 1024]⟩
abbrev S512x512 : Shape := ⟨2, ![512, 512]⟩
abbrev S1536x512 : Shape := ⟨2, ![1536, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S1536x1024, .bf16⟩
  | .hbm, ⟨4, _⟩ => ⟨S8192x1024, .f32⟩
  | .hbm, ⟨5, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1536x512, .bf16⟩
  | .local _ .vmem, ⟨7, _⟩ => ⟨S1536x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S8192x512 : Shape := ⟨2, ![8192, 512]⟩
abbrev S1536x1024 : Shape := ⟨2, ![1536, 1024]⟩
abbrev S8192x1024 : Shape := ⟨2, ![8192, 1024]⟩
abbrev S512x1024 : Shape := ⟨2, ![512, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S1536x1024, .bf16⟩
  | .hbm, ⟨4, _⟩ => ⟨S8192x1024, .f32⟩
  | .hbm, ⟨5, _⟩ => ⟨S1536x1024, .f32⟩
  | .hbm, ⟨6, _⟩ => ⟨S512x1024, .f32⟩
  | .hbm, ⟨7, _⟩ => ⟨S8192x1024, .f32⟩
  | .hbm, ⟨8, _⟩ => ⟨S512x1024, .f32⟩
  | .hbm, ⟨9, _⟩ => ⟨S8192x1024, .f32⟩
  | .hbm, ⟨10, _⟩ => ⟨S8192x1024, .f32⟩
  | .hbm, ⟨11, _⟩ => ⟨S512x1024, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel14.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S512x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x1024 : Shape := ⟨2, ![8192, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference15Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S7x1024, .f32⟩
  | .hbm, ⟨49, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel16.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .f32⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S512x1024, .f32⟩
  | .hbm, ⟨7, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S8192x1024 : Shape := ⟨2, ![8192, 1024]⟩
abbrev S8192x128 : Shape := ⟨2, ![8192, 128]⟩
abbrev S1024x128 : Shape := ⟨2, ![1024, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S128x1024, .f32⟩
  | .hbm, ⟨7, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S384x1024 : Shape := ⟨2, ![384, 1024]⟩
abbrev S8x384x1024 : Shape := ⟨3, ![8, 384, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S384x1024, .f32⟩
  | .hbm, ⟨1, _⟩ => ⟨S384x1024, .f32⟩
  | .hbm, ⟨2, _⟩ => ⟨S384x1024, .f32⟩
  | .hbm, ⟨3, _⟩ => ⟨S8x384x1024, .bf16⟩
  | .hbm, ⟨4, _⟩ => ⟨S384x1024, .f32⟩
  | .hbm, ⟨5, _⟩ => ⟨S384x1024, .f32⟩
  | .hbm, ⟨6, _⟩ => ⟨S384x1024, .f32⟩
  | .hbm, ⟨7, _⟩ => ⟨S384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S384x1024 : Shape := ⟨2, ![384, 1024]⟩
abbrev S8x384x1024 : Shape := ⟨3, ![8, 384, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S384x1024, .f32⟩
  | .hbm, ⟨1, _⟩ => ⟨S384x1024, .f32⟩
  | .hbm, ⟨2, _⟩ => ⟨S384x1024, .f32⟩
  | .hbm, ⟨3, _⟩ => ⟨S8x384x1024, .bf16⟩
  | .hbm, ⟨4, _⟩ => ⟨S8x384x1024, .f32⟩
  | .hbm, ⟨5, _⟩ => ⟨S_, .f32⟩
  | .hbm, ⟨6, _⟩ => ⟨S384x1024, .f32⟩
  | .hbm, ⟨7, _⟩ => ⟨S_, .f32⟩
  | .hbm, ⟨8, _⟩ => ⟨S384x1024, .f32⟩
  | .hbm, ⟨9, _⟩ => ⟨S384x1024, .f32⟩
  | .hbm, ⟨10, _⟩ => ⟨S_, .f32⟩
  | .hbm, ⟨11, _⟩ => ⟨S384x1024, .f32⟩
  | .hbm, ⟨12, _⟩ => ⟨S384x1024, .f32⟩
  | .hbm, ⟨13, _⟩ => ⟨S384x1024, .f32⟩
  | .hbm, ⟨14, _⟩ => ⟨S_, .f32⟩
  | .hbm, ⟨15, _⟩ => ⟨S384x1024, .f32⟩
  | .hbm, ⟨16, _⟩ => ⟨S384x1024, .f32⟩
  | .hbm, ⟨17, _⟩ => ⟨S384x1024, .f32⟩
  | .hbm, ⟨18, _⟩ => ⟨S_, .f32⟩
  | .hbm, ⟨19, _⟩ => ⟨S384x1024, .f32⟩
  | .hbm, ⟨20, _⟩ => ⟨S384x1024, .f32⟩
  | .hbm, ⟨21, _⟩ => ⟨S384x1024, .f32⟩
  | .hbm, ⟨22, _⟩ => ⟨S_, .f32⟩
  | .hbm, ⟨23, _⟩ => ⟨S384x1024, .f32⟩
  | .hbm, ⟨24, _⟩ => ⟨S384x1024, .f32⟩
  | .hbm, ⟨25, _⟩ => ⟨S_, .f32⟩
  | .hbm, ⟨26, _⟩ => ⟨S384x1024, .f32⟩
  | .hbm, ⟨27, _⟩ => ⟨S384x1024, .f32⟩
  | .hbm, ⟨28, _⟩ => ⟨S384x1024, .f32⟩
  | .hbm, ⟨29, _⟩ => ⟨S_, .f32⟩
  | .hbm, ⟨30, _⟩ => ⟨S384x1024, .f32⟩
  | .hbm, ⟨31, _⟩ => ⟨S384x1024, .f32⟩
  | .hbm, ⟨32, _⟩ => ⟨S384x1024, .f32⟩
  | .hbm, ⟨33, _⟩ => ⟨S_, .f32⟩
  | .hbm, ⟨34, _⟩ => ⟨S384x1024, .f32⟩
  | .hbm, ⟨35, _⟩ => ⟨S384x1024, .f32⟩
  | .hbm, ⟨36, _⟩ => ⟨S384x1024, .f32⟩
  | .hbm, ⟨37, _⟩ => ⟨S_, .f32⟩
  | .hbm, ⟨38, _⟩ => ⟨S384x1024, .f32⟩
  | .hbm, ⟨39, _⟩ => ⟨S384x1024, .f32⟩
  | _, _ => ⟨S384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S768x1024 : Shape := ⟨2, ![768, 1024]⟩
abbrev S8x768x1024 : Shape := ⟨3, ![8, 768, 1024]⟩
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S8x768x1024, .bf16⟩
  | .hbm, ⟨4, _⟩ => ⟨S768x1024, .f32⟩
  | .hbm, ⟨5, _⟩ => ⟨S768x1024, .f32⟩
  | .hbm, ⟨6, _⟩ => ⟨S768x1024, .f32⟩
  | .hbm, ⟨7, _⟩ => ⟨S768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x256x1024, .bf16⟩
  | .local _ .vmem, ⟨7, _⟩ => ⟨S8x256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S768x1024 : Shape := ⟨2, ![768, 1024]⟩
abbrev S8x768x1024 : Shape := ⟨3, ![8, 768, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S8x768x1024, .bf16⟩
  | .hbm, ⟨4, _⟩ => ⟨S8x768x1024, .f32⟩
  | .hbm, ⟨5, _⟩ => ⟨S_, .f32⟩
  | .hbm, ⟨6, _⟩ => ⟨S768x1024, .f32⟩
  | .hbm, ⟨7, _⟩ => ⟨S_, .f32⟩
  | .hbm, ⟨8, _⟩ => ⟨S768x1024, .f32⟩
  | .hbm, ⟨9, _⟩ => ⟨S768x1024, .f32⟩
  | .hbm, ⟨10, _⟩ => ⟨S_, .f32⟩
  | .hbm, ⟨11, _⟩ => ⟨S768x1024, .f32⟩
  | .hbm, ⟨12, _⟩ => ⟨S768x1024, .f32⟩
  | .hbm, ⟨13, _⟩ => ⟨S768x1024, .f32⟩
  | .hbm, ⟨14, _⟩ => ⟨S_, .f32⟩
  | .hbm, ⟨15, _⟩ => ⟨S768x1024, .f32⟩
  | .hbm, ⟨16, _⟩ => ⟨S768x1024, .f32⟩
  | .hbm, ⟨17, _⟩ => ⟨S768x1024, .f32⟩
  | .hbm, ⟨18, _⟩ => ⟨S_, .f32⟩
  | .hbm, ⟨19, _⟩ => ⟨S768x1024, .f32⟩
  | .hbm, ⟨20, _⟩ => ⟨S768x1024, .f32⟩
  | .hbm, ⟨21, _⟩ => ⟨S768x1024, .f32⟩
  | .hbm, ⟨22, _⟩ => ⟨S_, .f32⟩
  | .hbm, ⟨23, _⟩ => ⟨S768x1024, .f32⟩
  | .hbm, ⟨24, _⟩ => ⟨S768x1024, .f32⟩
  | .hbm, ⟨25, _⟩ => ⟨S_, .f32⟩
  | .hbm, ⟨26, _⟩ => ⟨S768x1024, .f32⟩
  | .hbm, ⟨27, _⟩ => ⟨S768x1024, .f32⟩
  | .hbm, ⟨28, _⟩ => ⟨S768x1024, .f32⟩
  | .hbm, ⟨29, _⟩ => ⟨S_, .f32⟩
  | .hbm, ⟨30, _⟩ => ⟨S768x1024, .f32⟩
  | .hbm, ⟨31, _⟩ => ⟨S768x1024, .f32⟩
  | .hbm, ⟨32, _⟩ => ⟨S768x1024, .f32⟩
  | .hbm, ⟨33, _⟩ => ⟨S_, .f32⟩
  | .hbm, ⟨34, _⟩ => ⟨S768x1024, .f32⟩
  | .hbm, ⟨35, _⟩ => ⟨S768x1024, .f32⟩
  | .hbm, ⟨36, _⟩ => ⟨S768x1024, .f32⟩
  | .hbm, ⟨37, _⟩ => ⟨S_, .f32⟩
  | .hbm, ⟨38, _⟩ => ⟨S768x1024, .f32⟩
  | .hbm, ⟨39, _⟩ => ⟨S768x1024, .f32⟩
  | _, _ => ⟨S768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S2048x384 : Shape := ⟨2, ![2048, 384]⟩
abbrev S8x2048x384 : Shape := ⟨3, ![8, 2048, 384]⟩
abbrev S512x384 : Shape := ⟨2, ![512, 384]⟩
abbrev S8x512x384 : Shape := ⟨3, ![8, 512, 384]⟩
abbrev S1x512x384 : Shape := ⟨3, ![1, 512, 384]⟩

abbrev nBuf : Space → Nat
  | .hbm => 8
  | .vmem => 16
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S8x2048x384, .bf16⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S8x512x384, .bf16⟩
  | .local _ .vmem, ⟨7, _⟩ => ⟨S8x512x384, .bf16⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S2048x384 : Shape := ⟨2, ![2048, 384]⟩
abbrev S8x2048x384 : Shape := ⟨3, ![8, 2048, 384]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S8x2048x384, .bf16⟩
  | .hbm, ⟨4, _⟩ => ⟨S8x2048x384, .f32⟩
  | .hbm, ⟨5, _⟩ => ⟨S_, .f32⟩
  | .hbm, ⟨6, _⟩ => ⟨S2048x384, .f32⟩
  | .hbm, ⟨7, _⟩ => ⟨S_, .f32⟩
  | .hbm, ⟨8, _⟩ => ⟨S2048x384, .f32⟩
  | .hbm, ⟨9, _⟩ => ⟨S2048x384, .f32⟩
  | .hbm, ⟨10, _⟩ => ⟨S_, .f32⟩
  | .hbm, ⟨11, _⟩ => ⟨S2048x384, .f32⟩
  | .hbm, ⟨12, _⟩ => ⟨S2048x384, .f32⟩
  | .hbm, ⟨13, _⟩ => ⟨S2048x384, .f32⟩
  | .hbm, ⟨14, _⟩ => ⟨S_, .f32⟩
  | .hbm, ⟨15, _⟩ => ⟨S2048x384, .f32⟩
  | .hbm, ⟨16, _⟩ => ⟨S2048x384, .f32⟩
  | .hbm, ⟨17, _⟩ => ⟨S2048x384, .f32⟩
  | .hbm, ⟨18, _⟩ => ⟨S_, .f32⟩
  | .hbm, ⟨19, _⟩ => ⟨S2048x384, .f32⟩
  | .hbm, ⟨20, _⟩ => ⟨S2048x384, .f32⟩
  | .hbm, ⟨21, _⟩ => ⟨S2048x384, .f32⟩
  | .hbm, ⟨22, _⟩ => ⟨S_, .f32⟩
  | .hbm, ⟨23, _⟩ => ⟨S2048x384, .f32⟩
  | .hbm, ⟨24, _⟩ => ⟨S2048x384, .f32⟩
  | .hbm, ⟨25, _⟩ => ⟨S_, .f32⟩
  | .hbm, ⟨26, _⟩ => ⟨S2048x384, .f32⟩
  | .hbm, ⟨27, _⟩ => ⟨S2048x384, .f32⟩
  | .hbm, ⟨28, _⟩ => ⟨S2048x384, .f32⟩
  | .hbm, ⟨29, _⟩ => ⟨S_, .f32⟩
  | .hbm, ⟨30, _⟩ => ⟨S2048x384, .f32⟩
  | .hbm, ⟨31, _⟩ => ⟨S2048x384, .f32⟩
  | .hbm, ⟨32, _⟩ => ⟨S2048x384, .f32⟩
  | .hbm, ⟨33, _⟩ => ⟨S_, .f32⟩
  | .hbm, ⟨34, _⟩ => ⟨S2048x384, .f32⟩
  | .hbm, ⟨35, _⟩ => ⟨S2048x384, .f32⟩
  | .hbm, ⟨36, _⟩ => ⟨S2048x384, .f32⟩
  | .hbm, ⟨37, _⟩ => ⟨S_, .f32⟩
  | .hbm, ⟨38, _⟩ => ⟨S2048x384, .f32⟩
  | .hbm, ⟨39, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel23.lean ====
abbrev S1280x128 : Shape := ⟨2, ![1280, 128]⟩
abbrev S8x1280x128 : Shape := ⟨3, ![8, 1280, 128]⟩
abbrev S256x128 : Shape := ⟨2, ![256, 128]⟩
abbrev S8x256x128 : Shape := ⟨3, ![8, 256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S1280x128, .f32⟩
  | .hbm, ⟨1, _⟩ => ⟨S1280x128, .f32⟩
  | .hbm, ⟨2, _⟩ => ⟨S1280x128, .f32⟩
  | .hbm, ⟨3, _⟩ => ⟨S8x1280x128, .f32⟩
  | .hbm, ⟨4, _⟩ => ⟨S1280x128, .f32⟩
  | .hbm, ⟨5, _⟩ => ⟨S1280x128, .f32⟩
  | .hbm, ⟨6, _⟩ => ⟨S1280x128, .f32⟩
  | .hbm, ⟨7, _⟩ => ⟨S1280x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S8x256x128, .f32⟩
  | .local _ .vmem, ⟨7, _⟩ => ⟨S8x256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S1280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S1280x128 : Shape := ⟨2, ![1280, 128]⟩
abbrev S8x1280x128 : Shape := ⟨3, ![8, 1280, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1280x128, .f32⟩
  | .hbm, ⟨1, _⟩ => ⟨S1280x128, .f32⟩
  | .hbm, ⟨2, _⟩ => ⟨S1280x128, .f32⟩
  | .hbm, ⟨3, _⟩ => ⟨S8x1280x128, .f32⟩
  | .hbm, ⟨4, _⟩ => ⟨S_, .f32⟩
  | .hbm, ⟨5, _⟩ => ⟨S1280x128, .f32⟩
  | .hbm, ⟨6, _⟩ => ⟨S_, .f32⟩
  | .hbm, ⟨7, _⟩ => ⟨S1280x128, .f32⟩
  | .hbm, ⟨8, _⟩ => ⟨S1280x128, .f32⟩
  | .hbm, ⟨9, _⟩ => ⟨S_, .f32⟩
  | .hbm, ⟨10, _⟩ => ⟨S1280x128, .f32⟩
  | .hbm, ⟨11, _⟩ => ⟨S1280x128, .f32⟩
  | .hbm, ⟨12, _⟩ => ⟨S1280x128, .f32⟩
  | .hbm, ⟨13, _⟩ => ⟨S_, .f32⟩
  | .hbm, ⟨14, _⟩ => ⟨S1280x128, .f32⟩
  | .hbm, ⟨15, _⟩ => ⟨S1280x128, .f32⟩
  | .hbm, ⟨16, _⟩ => ⟨S1280x128, .f32⟩
  | .hbm, ⟨17, _⟩ => ⟨S_, .f32⟩
  | .hbm, ⟨18, _⟩ => ⟨S1280x128, .f32⟩
  | .hbm, ⟨19, _⟩ => ⟨S1280x128, .f32⟩
  | .hbm, ⟨20, _⟩ => ⟨S1280x128, .f32⟩
  | .hbm, ⟨21, _⟩ => ⟨S_, .f32⟩
  | .hbm, ⟨22, _⟩ => ⟨S1280x128, .f32⟩
  | .hbm, ⟨23, _⟩ => ⟨S1280x128, .f32⟩
  | .hbm, ⟨24, _⟩ => ⟨S_, .f32⟩
  | .hbm, ⟨25, _⟩ => ⟨S1280x128, .f32⟩
  | .hbm, ⟨26, _⟩ => ⟨S1280x128, .f32⟩
  | .hbm, ⟨27, _⟩ => ⟨S1280x128, .f32⟩
  | .hbm, ⟨28, _⟩ => ⟨S_, .f32⟩
  | .hbm, ⟨29, _⟩ => ⟨S1280x128, .f32⟩
  | .hbm, ⟨30, _⟩ => ⟨S1280x128, .f32⟩
  | .hbm, ⟨31, _⟩ => ⟨S1280x128, .f32⟩
  | .hbm, ⟨32, _⟩ => ⟨S_, .f32⟩
  | .hbm, ⟨33, _⟩ => ⟨S1280x128, .f32⟩
  | .hbm, ⟨34, _⟩ => ⟨S1280x128, .f32⟩
  | .hbm, ⟨35, _⟩ => ⟨S1280x128, .f32⟩
  | .hbm, ⟨36, _⟩ => ⟨S_, .f32⟩
  | .hbm, ⟨37, _⟩ => ⟨S1280x128, .f32⟩
  | .hbm, ⟨38, _⟩ => ⟨S1280x128, .f32⟩
  | _, _ => ⟨S1280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S16x128 : Shape := ⟨2, ![16, 128]⟩
abbrev S1x16x128 : Shape := ⟨3, ![1, 16, 128]⟩

abbrev nBuf : Space → Nat
  | .hbm => 8
  | .vmem => 8
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S1x16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S1x16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S16x128 : Shape := ⟨2, ![16, 128]⟩
abbrev S1x16x128 : Shape := ⟨3, ![1, 16, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S1x16x128, .f32⟩
  | .hbm, ⟨4, _⟩ => ⟨S_, .f32⟩
  | .hbm, ⟨5, _⟩ => ⟨S16x128, .f32⟩
  | .hbm, ⟨6, _⟩ => ⟨S_, .f32⟩
  | .hbm, ⟨7, _⟩ => ⟨S16x128, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S16x128, .f32⟩
  | .hbm, ⟨13, _⟩ => ⟨S_, .f32⟩
  | .hbm, ⟨14, _⟩ => ⟨S16x128, .f32⟩
  | .hbm, ⟨15, _⟩ => ⟨S16x128, .f32⟩
  | .hbm, ⟨16, _⟩ => ⟨S16x128, .f32⟩
  | .hbm, ⟨17, _⟩ => ⟨S_, .f32⟩
  | .hbm, ⟨18, _⟩ => ⟨S16x128, .f32⟩
  | .hbm, ⟨19, _⟩ => ⟨S16x128, .f32⟩
  | .hbm, ⟨20, _⟩ => ⟨S16x128, .f32⟩
  | .hbm, ⟨21, _⟩ => ⟨S_, .f32⟩
  | .hbm, ⟨22, _⟩ => ⟨S16x128, .f32⟩
  | .hbm, ⟨23, _⟩ => ⟨S16x128, .f32⟩
  | .hbm, ⟨24, _⟩ => ⟨S_, .f32⟩
  | .hbm, ⟨25, _⟩ => ⟨S16x128, .f32⟩
  | .hbm, ⟨26, _⟩ => ⟨S16x128, .f32⟩
  | .hbm, ⟨27, _⟩ => ⟨S16x128, .f32⟩
  | .hbm, ⟨28, _⟩ => ⟨S_, .f32⟩
  | .hbm, ⟨29, _⟩ => ⟨S16x128, .f32⟩
  | .hbm, ⟨30, _⟩ => ⟨S16x128, .f32⟩
  | .hbm, ⟨31, _⟩ => ⟨S16x128, .f32⟩
  | .hbm, ⟨32, _⟩ => ⟨S_, .f32⟩
  | .hbm, ⟨33, _⟩ => ⟨S16x128, .f32⟩
  | .hbm, ⟨34, _⟩ => ⟨S16x128, .f32⟩
  | .hbm, ⟨35, _⟩ => ⟨S16x128, .f32⟩
  | .hbm, ⟨36, _⟩ => ⟨S_, .f32⟩
  | .hbm, ⟨37, _⟩ => ⟨S16x128, .f32⟩
  | .hbm, ⟨38, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel25.lean ====
abbrev S8192x1024 : Shape := ⟨2, ![8192, 1024]⟩
abbrev S1x1024 : Shape := ⟨2, ![1, 1024]⟩
abbrev S8x128 : Shape := ⟨2, ![8, 128]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8x128, .f32⟩
  | .hbm, ⟨5, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩
abbrev S7x1024 : Shape := ⟨2, ![7, 1024]⟩
abbrev S8x1024 : Shape := ⟨2, ![8, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8x128, .f32⟩
  | .hbm, ⟨69, _⟩ => ⟨S_, .f32⟩
  | .hbm, ⟨70, _⟩ => ⟨S7x1024, .f32⟩
  | .hbm, ⟨71, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_15 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel26.lean ====
abbrev S2048x640 : Shape := ⟨2, ![2048, 640]⟩
abbrev S8x2048x640 : Shape := ⟨3, ![8, 2048, 640]⟩
abbrev S256x640 : Shape := ⟨2, ![256, 640]⟩
abbrev S8x256x640 : Shape := ⟨3, ![8, 256, 640]⟩
abbrev S1x256x640 : Shape := ⟨3, ![1, 256, 640]⟩

abbrev nBuf : Space → Nat
  | .hbm => 8
  | .vmem => 16
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S8x2048x640, .bf16⟩
  | .hbm, ⟨4, _⟩ => ⟨S2048x640, .f32⟩
  | .hbm, ⟨5, _⟩ => ⟨S2048x640, .f32⟩
  | .hbm, ⟨6, _⟩ => ⟨S2048x640, .f32⟩
  | .hbm, ⟨7, _⟩ => ⟨S2048x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S8x256x640, .bf16⟩
  | .local _ .vmem, ⟨7, _⟩ => ⟨S8x256x640, .bf16⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | _, _ => ⟨S2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 8
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S2048x640 : Shape := ⟨2, ![2048, 640]⟩
abbrev S8x2048x640 : Shape := ⟨3, ![8, 2048, 640]⟩
abbrev S_ : Shape := ⟨0, ![]⟩
abbrev S640 : Shape := ⟨1, ![640]⟩
abbrev S640x1 : Shape := ⟨2, ![640, 1]⟩
abbrev S1x640 : Shape := ⟨2, ![1, 640]⟩
abbrev S640x640 : Shape := ⟨2, ![640, 640]⟩
abbrev S1x2048x640 : Shape := ⟨3, ![1, 2048, 640]⟩

abbrev nBuf : Space → Nat
  | .hbm => 87
  | .vmem => 0
  | .smem => 0
  | _ => 0

abbrev bufTy : (tb : Table) → Fin (tcTables nBuf tb) → BufTy
  | .hbm, ⟨0, _⟩ => ⟨S2048x640, .f32⟩
  | .hbm, ⟨1, _⟩ => ⟨S2048x640, .f32⟩
  | .hbm, ⟨2, _⟩ => ⟨S2048x640, .f32⟩
  | .hbm, ⟨3, _⟩ => ⟨S8x2048x640, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S640, .i32⟩
  | .hbm, ⟨35, _⟩ => ⟨S640, .i32⟩
  | .hbm, ⟨36, _⟩ => ⟨S640, .i32⟩
  | .hbm, ⟨37, _⟩ => ⟨S_, .i32⟩
  | .hbm, ⟨38, _⟩ => ⟨S640, .i32⟩
  | .hbm, ⟨39, _⟩ => ⟨S640, .i32⟩
  | .hbm, ⟨40, _⟩ => ⟨S640, .i32⟩
  | .hbm, ⟨41, _⟩ => ⟨S640x1, .i32⟩
  | .hbm, ⟨42, _⟩ => ⟨S1x640, .i32⟩
  | .hbm, ⟨43, _⟩ => ⟨S640x640, .i32⟩
  | .hbm, ⟨44, _⟩ => ⟨S640x640, .i32⟩
  | .hbm, ⟨45, _⟩ => ⟨S640x640, .i1⟩
  | .hbm, ⟨46, _⟩ => ⟨S640x640, .f32⟩
  | .hbm, ⟨47, _⟩ => ⟨S8x2048x640, .f32⟩
  | .hbm, ⟨48, _⟩ => ⟨S_, .f32⟩
  | .hbm, ⟨49, _⟩ => ⟨S2048x640, .f32⟩
  | .hbm, ⟨50, _⟩ => ⟨S2048x640, .f32⟩
  | .hbm, ⟨51, _⟩ => ⟨S1x2048x640, .f32⟩
  | .hbm, ⟨52, _⟩ => ⟨S_, .f32⟩
  | .hbm, ⟨53, _⟩ => ⟨S2048x640, .f32⟩
  | .hbm, ⟨54, _⟩ => ⟨S_, .f32⟩
  | .hbm, ⟨55, _⟩ => ⟨S2048x640, .f32⟩
  | .hbm, ⟨56, _⟩ => ⟨S2048x640, .f32⟩
  | .hbm, ⟨57, _⟩ => ⟨S_, .f32⟩
  | .hbm, ⟨58, _⟩ => ⟨S2048x640, .f32⟩
  | .hbm, ⟨59, _⟩ => ⟨S2048x640, .f32⟩
  | .hbm, ⟨60, _⟩ => ⟨S2048x640, .f32⟩
  | .hbm, ⟨61, _⟩ => ⟨S_, .f32⟩
  | .hbm, ⟨62, _⟩ => ⟨S2048x640, .f32⟩
  | .hbm, ⟨63, _⟩ => ⟨S2048x640, .f32⟩
  | .hbm, ⟨64, _⟩ => ⟨S2048x640, .f32⟩
  | .hbm, ⟨65, _⟩ => ⟨S_, .f32⟩
  | .hbm, ⟨66, _⟩ => ⟨S2048x640, .f32⟩
  | .hbm, ⟨67, _⟩ => ⟨S2048x640, .f32⟩
  | .hbm, ⟨68, _⟩ => ⟨S2048x640, .f32⟩
  | .hbm, ⟨69, _⟩ => ⟨S_, .f32⟩
  | .hbm, ⟨70, _⟩ => ⟨S2048x640, .f32⟩
  | .hbm, ⟨71, _⟩ => ⟨S2048x640, .f32⟩
  | .hbm, ⟨72, _⟩ => ⟨S_, .f32⟩
  | .hbm, ⟨73, _⟩ => ⟨S2048x640, .f32⟩
  | .hbm, ⟨74, _⟩ => ⟨S2048x640, .f32⟩
  | .hbm, ⟨75, _⟩ => ⟨S2048x640, .f32⟩
  | .hbm, ⟨76, _⟩ => ⟨S_, .f32⟩
  | .hbm, ⟨77, _⟩ => ⟨S2048x640, .f32⟩
  | .hbm, ⟨78, _⟩ => ⟨S2048x640, .f32⟩
  | .hbm, ⟨79, _⟩ => ⟨S2048x640, .f32⟩
  | .hbm, ⟨80, _⟩ => ⟨S_, .f32⟩
  | .hbm, ⟨81, _⟩ => ⟨S2048x640, .f32⟩
  | .hbm, ⟨82, _⟩ => ⟨S2048x640, .f32⟩
  | .hbm, ⟨83, _⟩ => ⟨S2048x640, .f32⟩
  | .hbm, ⟨84, _⟩ => ⟨S_, .f32⟩
  | .hbm, ⟨85, _⟩ => ⟨S2048x640, .f32⟩
  | .hbm, ⟨86, _⟩ => ⟨S2048x640, .f32⟩
  | _, _ => ⟨S2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_c_2 : Ref sig .tc := ⟨.hbm, 12, rfl⟩
abbrev main_c_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_v11 : Ref sig .tc := ⟨.hbm, 20, rfl⟩
abbrev main_c_5 : Ref sig .tc := ⟨.hbm, 21, rfl⟩
abbrev main_c_6 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_7 : Ref sig .tc := ⟨.hbm, 28, rfl⟩
abbrev main_v17 : Ref sig .tc := ⟨.hbm, 29, rfl⟩
abbrev main_v18 : Ref sig .tc := ⟨.hbm, 30, rfl⟩
abbrev main_c_8 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_9 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_cst_11 : Ref sig .tc := ⟨.hbm, 54, rfl⟩
abbrev main_v38 : Ref sig .tc := ⟨.hbm, 55, rfl⟩
abbrev main_v39 : Ref sig .tc := ⟨.hbm, 56, rfl⟩
abbrev main_cst_12 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_13 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_14 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_15 : Ref sig .tc := ⟨.hbm, 69, rfl⟩
abbrev main_v49 : Ref sig .tc := ⟨.hbm, 70, rfl⟩
abbrev main_v50 : Ref sig .tc := ⟨.hbm, 71, rfl⟩
abbrev main_cst_16 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_17 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_18 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩

abbrev nD : Nat := 8
abbrev τ : Topo := Topo.v7x

variable {F : FTy → Type} [FloatOps F]
-- ==== Proof.Words.lean ====
/-
  What the programs' words denote: the float constants, and the comparisons of row numbers.
-/
module

public import Idealize.ShloMosaic.PureOps.Ideal.Laws
public import Idealize.ShloMosaic.Lib.Pointwise
public import Mathlib.Data.EReal.Operations

@[expose] public section

noncomputable section

namespace Cert.Words

open Idealize.ShloMosaic

/-- The pattern of `+∞` denotes `+∞`, -/
theorem ofBits_inf : Ideal.ofBits .f32 0x7F800000#32 = ⊤ := by
  simp [Ideal.ofBits, Ideal.ieee]

/-- that of `-∞` denotes `-∞`, -/
theorem ofBits_neg_inf : Ideal.ofBits .f32 0xFF800000#32 = ⊥ := by
  simp [Ideal.ofBits, Ideal.ieee]

/-- that of one eighth one eighth, -/
theorem eighth : Ideal.ofBits .f32 0x3E000000#32 = ((1 / 8 : ℝ) : EReal) := by
  simp [Ideal.ofBits, Ideal.ieee]
  rw [← EReal.coe_mul]; norm_num

/-- and the patterns of `-8`, `-4` and so on, each half the last one's, those halves. -/
theorem halved (w : BitVec 32) (h : Fin 8) (hw : w.toNat + h * 8388608 = 3238002688) :
    (FloatOps.ofBits .f32 w : Ideal .f32) = ((-(1 / 2 ^ ((h : ℕ) + 1) * 16) : ℝ) : EReal) := by
  obtain rfl : w = BitVec.ofNat 32 (3238002688 - h * 8388608) := by
    apply BitVec.eq_of_toNat_eq; rw [BitVec.toNat_ofNat]; omega
  show Ideal.ofBits .f32 _ = _
  fin_cases h <;> simp [Ideal.ofBits, Ideal.ieee] <;> norm_cast <;> norm_num

/-- A row number as a signed word, -/
theorem row_toInt {n : ℕ} (hn : n < 512) : (BitVec.ofNat 32 n).toInt = n := by
  rw [BitVec.toInt_eq_toNat_bmod, BitVec.toNat_ofNat]; simp only [Int.bmod]; omega

/-- the distance of two, -/
theorem dist_toInt {a b : ℕ} (ha : a < 512) (hb : b < 512) :
    (IntOp.subi (BitVec.ofNat 32 a) (BitVec.ofNat 32 b)).toInt = (a : ℤ) - b := by
  simp only [IntOp.subi, BitVec.toInt_sub]
  rw [row_toInt ha, row_toInt hb]
  simp only [Int.bmod]
  omega

/-- and the test that it lies between `0` and `128`. -/
theorem band {a b : ℕ} (ha : a < 512) (hb : b < 512) :
    IntOp.andi (IntOp.cmpi .sge (IntOp.subi (BitVec.ofNat 32 a) (BitVec.ofNat 32 b)) 0#32)
        (IntOp.cmpi .sle (IntOp.subi (BitVec.ofNat 32 a) (BitVec.ofNat 32 b)) 128#32)
      = if b ≤ a ∧ a ≤ b + 128 then 1#1 else 0#1 := by
  have hd := dist_toInt ha hb
  have h1 : IntOp.cmpi .sge (IntOp.subi (BitVec.ofNat 32 a) (BitVec.ofNat 32 b)) 0#32 = if b ≤ a then 1#1 else 0#1 := by
    simp only [IntOp.cmpi, BitVec.sle_eq_decide, hd]
    by_cases h : b ≤ a
    · rw [if_pos h, decide_eq_true (by simp; omega)]; rfl
    · rw [if_neg h, decide_eq_false (by simp; omega)]; rfl
  have h2 : IntOp.cmpi .sle (IntOp.subi (BitVec.ofNat 32 a) (BitVec.ofNat 32 b)) 128#32 = if a ≤ b + 128 then 1#1 else 0#1 := by
    have : (128#32).toInt = 128 := by decide
    simp only [IntOp.cmpi, BitVec.sle_eq_decide, hd, this]
    by_cases h : a ≤ b + 128
    · rw [if_pos h, decide_eq_true (by omega)]; rfl
    · rw [if_neg h, decide_eq_false (by omega)]; rfl
  rw [h1, h2]
  by_cases a1 : b ≤ a <;> by_cases a2 : a ≤ b + 128 <;> simp only [a1, a2, if_true, if_false, and_true, and_false, and_self] <;> decide

/-- The patterns of `1024`, of its inverse, of the halves, of two and of one, -/
theorem kilo : (FloatOps.ofBits .f32 0x44800000#32 : Ideal .f32) = ((1024 : ℝ) : EReal) := by
  show Ideal.ofBits .f32 _ = _
  simp [Ideal.ofBits, Ideal.ieee]
  norm_cast; norm_num
theorem kilo_inv : (FloatOps.ofBits .f32 0x3A800000#32 : Ideal .f32) = ((1 / 1024 : ℝ) : EReal) := by
  show Ideal.ofBits .f32 _ = _
  simp [Ideal.ofBits, Ideal.ieee]
  rw [← EReal.coe_mul]; norm_num
theorem half : (FloatOps.ofBits .f32 0x3F000000#32 : Ideal .f32) = ((1 / 2 : ℝ) : EReal) := by
  show Ideal.ofBits .f32 _ = _
  simp [Ideal.ofBits, Ideal.ieee]
  rw [← EReal.coe_mul]; norm_num
theorem neg_half : (FloatOps.ofBits .f32 0xBF000000#32 : Ideal .f32) = ((-(1 / 2) : ℝ) : EReal) := by
  show Ideal.ofBits .f32 _ = _
  simp [Ideal.ofBits, Ideal.ieee]
  norm_cast; norm_num
theorem two : (FloatOps.ofBits .f32 0x40000000#32 : Ideal .f32) = ((2 : ℝ) : EReal) := by
  show Ideal.ofBits .f32 _ = _
  simp [Ideal.ofBits, Ideal.ieee]
  norm_cast; norm_num
theorem one : (FloatOps.ofBits .f32 0x3F800000#32 : Ideal .f32) = ((1 : ℝ) : EReal) := by
  show Ideal.ofBits .f32 _ = _
  simp [Ideal.ofBits, Ideal.ieee]
  rw [← EReal.coe_mul]; norm_num

/-- and the norm's small constant, which is positive. -/
theorem small : ∃ p : ℝ, 0 < p ∧ (FloatOps.ofBits .f32 0x358637BD#32 : Ideal .f32) = (p : EReal) := by
  refine ⟨8796093 * 2 ^ (-43 : ℤ), by positivity, ?_⟩
  show Ideal.ofBits .f32 _ = _
  simp [Ideal.ofBits, Ideal.ieee]

end Cert.Words

end
-- ==== Proof.Reals.lean ====
/-
  Extended reals that are real numbers: closed under sums and products, and recognised by a bound on the absolute value.
-/
module

public import proofs.«01_k».proof.Proof.Words
public import Idealize.ShloMosaic.PureOps.Ideal.Laws
public import Mathlib.Data.EReal.Operations

@[expose] public section

noncomputable section

namespace Cert.Reals

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of real numbers is a real number. -/
theorem IsReal.sum {ι : Type} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- A number whose absolute value is below `+∞` is a real number. -/
theorem IsReal.of_abs_lt {x : EReal} (h : max x (-x) < ⊤) : IsReal x := by
  induction x using EReal.rec with
  | bot => simp at h
  | top => simp at h
  | coe r => exact ⟨r, rfl⟩

/-- The test "the absolute value is below `+∞`" comes out true on real numbers only. -/
theorem IsReal.of_test {x : EReal} (h : BitVec.ofBool (decide (FloatOps.absf (F := Ideal) (φ := .f32) x < Ideal.ofBits .f32 0x7F800000#32)) = 1#1) :
    IsReal x := by
  rw [Words.ofBits_inf] at h
  refine IsReal.of_abs_lt ?_
  by_contra hn
  have : decide (FloatOps.absf (F := Ideal) (φ := .f32) x < (⊤ : EReal)) = false := decide_eq_false hn
  rw [this] at h
  exact absurd h (by decide)

end Cert.Reals

end
-- ==== Proof.Gate.lean ====
/-
  The derivative of the gate `silu(g) * u` in one number: the two ways of writing it that the two programs use.
-/
module

public import proofs.«01_k».proof.Proof.Reals

@[expose] public section

noncomputable section

namespace Cert.Gate

open Idealize.ShloMosaic Cert.Reals

/-- The logistic function as both programs write it. -/
def sig (g : EReal) : EReal := Ideal.div 1 (1 + Ideal.exp (-g))

theorem sig_coe (g : ℝ) : sig (g : EReal) = (((1 + Real.exp (-g))⁻¹ : ℝ) : EReal) := Ideal.logistic_coe g
theorem sig_top : sig ⊤ = 1 := Ideal.logistic_top
theorem sig_bot : sig ⊥ = 0 := Ideal.logistic_bot

/-- The gradient `e` of the product by the derivative of `silu`, factored on the left and expanded on the right. The
    expansion asks that `e` be a real number; `g` may be infinite. -/
theorem factored (e g : EReal) (he : IsReal e) :
    e * (sig g * (1 + g * (1 - sig g))) = g * e * (sig g * (1 - sig g)) + e * sig g := by
  obtain ⟨e, rfl⟩ := he
  induction g using EReal.rec with
  | bot =>
    rw [sig_bot]
    simp
  | top =>
    rw [sig_top]
    have h : (1 : EReal) - 1 = 0 := by rw [← EReal.coe_one, ← EReal.coe_sub, sub_self, EReal.coe_zero]
    rw [h]
    simp
  | coe g =>
    rw [sig_coe]
    norm_cast
    ring

end Cert.Gate

end
-- ==== Proof.GateGrad.lean ====
/-
  The kernel's two result arrays, the gradients of the gate and of the up projection, as functions of the four arguments.
-/
module

public import proofs.«01_k».proof.Proof.Gate
public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.GateGrad

open Cert.KernelIdeal Cert.KernelIdeal.Gen

/-- The gradient of the hidden activation: `dx · w_downᵀ` at row `r`, column `k`. -/
def dact (dx : FVec Ideal S8192x1024 .f32) (w : FVec Ideal S3072x1024 .bf16) (r : Fin 8192) (k : Fin 3072) : EReal :=
  ∑ j : Fin 1024, dx (ix2 r j) * w (ix2 k j)

/-- The gate's gradient. -/
def dgate (dx : FVec Ideal S8192x1024 .f32) (w : FVec Ideal S3072x1024 .bf16) (g u : FVec Ideal S8192x3072 .bf16) : FVec Ideal S8192x3072 .bf16 :=
  fun i => dact dx w (i 0) (i 1) * u i * (Gate.sig (g i) * (1 + g i * (1 - Gate.sig (g i))))

/-- The up projection's gradient. -/
def dup (dx : FVec Ideal S8192x1024 .f32) (w : FVec Ideal S3072x1024 .bf16) (g : FVec Ideal S8192x3072 .bf16) : FVec Ideal S8192x3072 .bf16 :=
  fun i => dact dx w (i 0) (i 1) * (g i * Gate.sig (g i))

variable (m : (ℓ : Loc nD τ sig) → Buf (Elt Ideal) ℓ)

/-- Every window's block at a point: sixteen row blocks, two column blocks each. -/
theorem idx_val : ∀ t : Fin cfg0.N, win0_0.index t = ![t.val / 2, 0] ∧ win0_1.index t = ![0, t.val % 2]
    ∧ win0_2.index t = ![t.val / 2, t.val % 2] ∧ win0_3.index t = ![t.val / 2, t.val % 2]
    ∧ win0_4.index t = ![t.val / 2, t.val % 2] ∧ win0_5.index t = ![t.val / 2, t.val % 2] :=
  (by decide +kernel : ∀ t : Fin grid0.N, _)

/-- What a point stores for the gate at `y` is the gate's gradient where `y` lies in the array. -/
theorem point_gate (c : Dev nD) (t : Fin cfg0.N) (y) :
    k0_pay3 (iblk m c 0 t) (iblk m c 1 t) (iblk m c 2 t) (iblk m c 3 t) y
      = dgate (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay3, k0_pay2, k0_pay1, dgate, dact, Gate.sig, zero_add, zero_sub]
  blk_point [iblk, V, idx_val t]

theorem point_up (c : Dev nD) (t : Fin cfg0.N) (y) :
    k0_pay4 (iblk m c 0 t) (iblk m c 1 t) (iblk m c 2 t) y
      = dup (m ((c : Thread nD τ).loc main_arg0)) (m ((c : Thread nD τ).loc main_arg1)) (m ((c : Thread nD τ).loc main_arg2))
          (((cfg0.win 5).blk t).view.emb y) := by
  pointwise [k0_pay4, k0_pay2, k0_pay1, dup, dact, Gate.sig, zero_add, zero_sub]
  blk_point [iblk, V, idx_val t]

/-- The gate's gradient fills its array, -/
theorem final_gate (c : Dev nD) : (dats m 0 c).arrAt 4 (cfgs 0).N
    = dgate (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]; frame_out
  exact point_gate m c t y

/-- and the up projection's gradient its own. -/
theorem final_up (c : Dev nD) : (dats m 0 c).arrAt 5 (cfgs 0).N
    = dup (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  exact point_up m c t y

end Cert.KernelIdeal.GateGrad

end
-- ==== Proof.GateClaim.lean ====
/-
  The gate's claims: the kernel's two gradients are the reference's, where the cotangent, the weight and the up projection
  are real numbers.
-/
module

public import proofs.«01_k».proof.Defs
public import proofs.«01_k».proof.Proof.GateGrad
public import proofs.«01_k».proof.Proof.Gen.Kernel.Frame
public import proofs.«01_k».proof.Proof.Gen.Pre_finite

@[expose] public section

set_option maxRecDepth 16384

noncomputable section

namespace Cert.Proof

open Idealize.ShloMosaic Idealize.ShloMosaic.TcCoe Idealize.SL.Sem
open Cert.Reals

/-- The claim's precondition at an index: the three arrays' elements are real numbers. -/
theorem finite_real (dx : FVec Ideal Cert.Pre_finite.S8192x1024 .f32) (w : FVec Ideal Cert.Pre_finite.S3072x1024 .bf16)
    (g u : FVec Ideal Cert.Pre_finite.S8192x3072 .bf16)
    (h : (Cert.Pre_finite.fn (F := Ideal) dx w g u).1 = (fun _ => 1#1) ∧ (Cert.Pre_finite.fn (F := Ideal) dx w g u).2.1 = (fun _ => 1#1)
      ∧ (Cert.Pre_finite.fn (F := Ideal) dx w g u).2.2 = (fun _ => 1#1)) :
    (∀ i, IsReal (dx i)) ∧ (∀ i, IsReal (w i)) ∧ ∀ i, IsReal (u i) := by
  obtain ⟨h0, h1, h2⟩ := h
  refine ⟨fun i => ?_, fun i => ?_, fun i => ?_⟩
  · have := congrFun h0 i
    pointwise [Cert.Pre_finite.fn] at this
    exact IsReal.of_test this
  · have := congrFun h1 i
    pointwise [Cert.Pre_finite.fn] at this
    exact IsReal.of_test this
  · have := congrFun h2 i
    pointwise [Cert.Pre_finite.fn] at this
    exact IsReal.of_test this

theorem gate_algebraic : Cert.algebraic_KernelIdeal_ReferenceIdeal_pre_finite := by
  pair_intro
  · run_from Cert.KernelIdeal.Gen.run_main m g
  · run_from Cert.ReferenceIdeal.Value.run m' g'
    · obtain ⟨hx, hw, hu⟩ := finite_real _ _ _ _ (hpre c)
      rw [Cert.KernelIdeal.GateGrad.final_gate]
      funext i
      pointwise [Cert.KernelIdeal.GateGrad.dgate, Cert.KernelIdeal.GateGrad.dact, Cert.Gate.sig]
      rw [add_comm]
      exact (Cert.Gate.factored _ _ ((IsReal.sum _ _ fun j _ => (hx _).mul (hw _)).mul (hu _))).symm
    · rw [Cert.KernelIdeal.GateGrad.final_up]
      funext i
      pointwise! [Cert.KernelIdeal.GateGrad.dup, Cert.KernelIdeal.GateGrad.dact, Cert.Gate.sig]

theorem gate_frame : Cert.quiescent_Kernel := fun m ρ _ => Cert.Kernel.Gen.frame m ρ
theorem gate_frame_ideal : Cert.quiescent_KernelIdeal := fun m ρ _ => Cert.KernelIdeal.Gen.frame m ρ
theorem gate_frame_finite : Cert.quiescent_KernelIdeal_pre_finite := fun m ρ _ => Cert.KernelIdeal.Gen.frame m ρ
theorem gate_frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)
theorem gate_frame_reference_finite : Cert.quiescent_ReferenceIdeal_pre_finite := fun m ρ _ => gate_frame_reference m ρ trivial

end Cert.Proof

end
-- ==== Proof.Attention.lean ====
/-
  One residue class of the dilated attention, and the three gradients of its branch, on plain functions of rows and lanes.
-/
module

public import Idealize.ShloMosaic.PureOps.Ideal
public import Idealize.ShloMosaic.Lib.Pointwise

@[expose] public section

set_option maxRecDepth 16384

noncomputable section

open Idealize.ShloMosaic

namespace Cert.Attention

/-- The lane of head `h` at coordinate `x`. -/
abbrev lane (h : Fin 8) (x : Fin 64) : Fin 512 := ⟨64 * h + x, by omega⟩

/-- The head a lane belongs to. -/
abbrev head (l : Fin 512) : Fin 8 := ⟨l / 64, by omega⟩

/-- The decay of head `h` per step of distance: `2 ^ -(h + 1)`. -/
def slope (h : Fin 8) : ℝ := 1 / 2 ^ ((h : ℕ) + 1)

/-- Query row `i` sees key row `j`: the keys at distance `0` to `128`. -/
def sees (i j : Fin 512) : Prop := (j : ℕ) ≤ i ∧ (i : ℕ) ≤ j + 128

instance (i j : Fin 512) : Decidable (sees i j) := inferInstanceAs (Decidable (_ ∧ _))

variable (q k v o : Fin 512 → Fin 512 → EReal) (lse del : Fin 512 → Fin 8 → EReal)

/-- The weight query `i` gives key `j` in head `h`. -/
def prob (h : Fin 8) (i j : Fin 512) : EReal :=
  if sees i j then
    Ideal.exp ((∑ x : Fin 64, q i (lane h x) * k j (lane h x)) * ((1 / 8 : ℝ) : EReal)
      + ((-(slope h * (16 * ((i : ℝ) - j))) : ℝ) : EReal) - lse i h)
  else 0

/-- The gradient of the score of query `i` and key `j`. -/
def dscore (h : Fin 8) (i j : Fin 512) : EReal :=
  prob q k lse h i j * ((∑ x : Fin 64, o i (lane h x) * v j (lane h x)) - del i h)

/-- The gradient of the values, -/
def dv (j l : Fin 512) : EReal := ∑ i, prob q k lse (head l) i j * o i l

/-- of the keys, -/
def dk (j l : Fin 512) : EReal := (∑ i, dscore q k v o lse del (head l) i j * q i l) * ((1 / 8 : ℝ) : EReal)

/-- and of the queries. -/
def dq (i l : Fin 512) : EReal := (∑ j, dscore q k v o lse del (head l) i j * k j l) * ((1 / 8 : ℝ) : EReal)

theorem prob_of_not_sees {h : Fin 8} {i j : Fin 512} (hs : ¬ sees i j) : prob q k lse h i j = 0 := if_neg hs

theorem dscore_of_not_sees {h : Fin 8} {i j : Fin 512} (hs : ¬ sees i j) : dscore q k v o lse del h i j = 0 := by
  rw [dscore, prob_of_not_sees _ _ _ hs, zero_mul]

/-- A sum over all rows of terms that vanish off the two blocks from row `128 b` on is the sum over those 256 rows,
    the rows past the end counting nothing. -/
theorem sum_from (b : ℕ) (hb : b < 4) (f : Fin 512 → EReal) (hf : ∀ i : Fin 512, (i : ℕ) < 128 * b ∨ 128 * b + 256 ≤ (i : ℕ) → f i = 0) :
    ∑ i, f i = ∑ i : Fin 256, if h : 128 * b + (i : ℕ) < 512 then f ⟨128 * b + i, h⟩ else 0 := by
  classical
  symm
  rw [← Finset.sum_filter_add_sum_filter_not Finset.univ (fun i : Fin 256 => 128 * b + (i : ℕ) < 512)]
  rw [Finset.sum_eq_zero (s := Finset.univ.filter fun i : Fin 256 => ¬ 128 * b + (i : ℕ) < 512)
    (fun i hi => dif_neg (Finset.mem_filter.1 hi).2), add_zero]
  rw [← Finset.sum_filter_add_sum_filter_not Finset.univ (fun i : Fin 512 => 128 * b ≤ (i : ℕ) ∧ (i : ℕ) < 128 * b + 256)]
  rw [Finset.sum_eq_zero (s := Finset.univ.filter fun i : Fin 512 => ¬ (128 * b ≤ (i : ℕ) ∧ (i : ℕ) < 128 * b + 256))
    (fun i hi => hf i (by have := (Finset.mem_filter.1 hi).2; omega)), add_zero]
  refine Finset.sum_bij' (fun i hi => ⟨128 * b + i, (Finset.mem_filter.1 hi).2⟩)
    (fun i hi => ⟨(i : ℕ) - 128 * b, by have := (Finset.mem_filter.1 hi).2; omega⟩) ?_ ?_ ?_ ?_ ?_
  · intro i hi; simp
  · intro i hi; have := (Finset.mem_filter.1 hi).2; simp; omega
  · intro i hi; ext; simp
  · intro i hi; have := (Finset.mem_filter.1 hi).2; ext; simp; omega
  · intro i hi; rw [dif_pos (Finset.mem_filter.1 hi).2]

/-- A sum over all rows of terms that vanish off block `b` and the next is the sum over the two. -/
theorem sum_upto (b : ℕ) (hb : b < 3) (f : Fin 512 → EReal)
    (hf : ∀ i : Fin 512, (i : ℕ) < 128 * b ∨ 128 * b + 256 ≤ (i : ℕ) → f i = 0) :
    ∑ i, f i = (∑ i : Fin 128, f ⟨128 * b + i, by omega⟩) + ∑ i : Fin 128, f ⟨128 * (b + 1) + i, by omega⟩ := by
  rw [sum_from b (by omega) f hf, show (256 : ℕ) = 128 + 128 from rfl, Fin.sum_univ_add]
  congr 1
  · refine Finset.sum_congr rfl fun i _ => ?_
    rw [dif_pos (by simp; omega)]; rfl
  · refine Finset.sum_congr rfl fun i _ => ?_
    rw [dif_pos (by simp; omega)]; congr 1; ext; simp; omega

/-- The first block has none before it. -/
theorem sum_first (f : Fin 512 → EReal) (hf : ∀ i : Fin 512, 128 ≤ (i : ℕ) → f i = 0) :
    ∑ i, f i = ∑ i : Fin 128, f ⟨i, by omega⟩ := by
  rw [sum_upto 0 (by omega) f (fun i h => hf i (by omega)), Finset.sum_eq_zero (f := fun i : Fin 128 => f ⟨128 * (0 + 1) + i, _⟩)
    (fun i _ => hf _ (by simp)), add_zero]
  exact Finset.sum_congr rfl fun i _ => by congr 1; ext; simp

/-- Of 128 lanes holding two heads, a sum that keeps one head's is the sum over its 64. -/
theorem sum_head (e : ℕ) (he : e < 2) (f : Fin 128 → EReal) :
    (∑ x : Fin 128, if (x : ℕ) / 64 = e then f x else 0) = ∑ x : Fin 64, f ⟨64 * e + x, by omega⟩ := by
  refine (Fin.sum_univ_add (a := 64) (b := 64) fun x : Fin 128 => if (x : ℕ) / 64 = e then f x else 0).trans ?_
  obtain rfl | rfl : e = 0 ∨ e = 1 := by omega
  · rw [Finset.sum_eq_zero (f := fun i : Fin 64 => if ((Fin.natAdd 64 i : Fin (64 + 64)) : ℕ) / 64 = 0 then _ else _)
      (fun i _ => if_neg (by simp)), add_zero]
    refine Finset.sum_congr rfl fun i _ => ?_
    rw [if_pos (by simp)]; congr 1; ext; simp
  · rw [Finset.sum_eq_zero (f := fun i : Fin 64 => if ((Fin.castAdd 64 i : Fin (64 + 64)) : ℕ) / 64 = 1 then _ else _)
      (fun i _ => if_neg (by simp; omega)), zero_add]
    refine Finset.sum_congr rfl fun i _ => ?_
    rw [if_pos (by simp)]; congr 1

end Cert.Attention

end
-- ==== Proof.AttentionPiece.lean ====
/-
  One tile of the kernel, 256 query rows over 128 key rows and two heads: its weights, its scores' gradients, and the pieces
  of the three gradients it stores, as the branch's own.
-/
module

public import proofs.«01_k».proof.Proof.Attention
public import proofs.«01_k».proof.Proof.Words
public import proofs.«01_k».proof.Proof.Gen.Kernel2Ideal.Skeleton
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.Kernel2Ideal.AttentionPiece

open Cert.Kernel2Ideal Cert.Kernel2Ideal.Gen Cert.Attention Cert.Words

/-- One head's lanes of a pair of heads, the others zero, -/
def kept (keep : IVec S128x128 1) (a : FVec Ideal S128x128 .f32) : FVec Ideal S128x128 .bf16 :=
  truncf .bf16 (select keep a (broadcast S128x128 (Scalar.ofBits .f32 0x00000000#32))) bitsLt_bf16_f32

/-- and the same of 256 rows. -/
def kept2 (keep : IVec S256x128 1) (a : FVec Ideal S256x128 .f32) : FVec Ideal S256x128 .bf16 :=
  truncf .bf16 (select keep a (broadcast S256x128 (Scalar.ofBits .f32 0x00000000#32))) bitsLt_bf16_f32

/-- The weights of 256 query rows over 128 key rows in one head. -/
def weights (s : Ideal .f32) (keep : IVec S128x128 1) (valid : IVec S256x128 1) (lse : FVec Ideal S256x1 .f32)
    (q : FVec Ideal S256x128 .f32) (k : FVec Ideal S128x128 .f32) : FVec Ideal S256x128 .f32 :=
  exp (subf (addf (mulf (matmul dot_S256x128_S128x128_S256x128_1_1_0_0_n_n none (truncf .bf16 q bitsLt_bf16_f32) (kept keep k)
        (constant S256x128 .f32 0x00000000#32)) (broadcast S256x128 (Scalar.ofBits .f32 0x3E000000#32)))
      (select valid (mulf (broadcast S256x128 s) (sitofp .f32 k0_pay5)) (broadcast S256x128 (Named.named κ "mask" 0xF149F2CA#32))))
    (broadcastTo S256x128 lse broadcasts_S256x1_S256x128))

/-- The gradients of those rows' scores. -/
def grads (s : Ideal .f32) (keep : IVec S128x128 1) (valid : IVec S256x128 1) (lse del : FVec Ideal S256x1 .f32)
    (q o : FVec Ideal S256x128 .f32) (k v : FVec Ideal S128x128 .f32) : FVec Ideal S256x128 .bf16 :=
  truncf .bf16 (mulf (weights s keep valid lse q k) (subf (matmul dot_S256x128_S128x128_S256x128_1_1_0_0_n_n none
    (truncf .bf16 o bitsLt_bf16_f32) (kept keep v) (constant S256x128 .f32 0x00000000#32))
    (broadcastTo S256x128 del broadcasts_S256x1_S256x128))) bitsLt_bf16_f32

/-- The constant the mask is named by is `-∞`. -/
theorem mask : Named.named (F := Ideal) κ "mask" (φ := .f32) 0xF149F2CA#32 = ⊥ :=
  IdealRules.named_const.ideal_named_scalar _ _ _ _ rfl

/-- The distance of two rows as a float. -/
theorem dist_at (i : Fin 256) (j : Fin 128) :
    (FloatOps.sitofp .f32 (IntOp.subi (BitVec.ofNat 32 i) (BitVec.ofNat 32 j)) : Ideal .f32) = (((i : ℝ) - j : ℝ) : EReal) := by
  show (((IntOp.subi (BitVec.ofNat 32 (i : ℕ)) (BitVec.ofNat 32 (j : ℕ))).toInt : ℝ) : EReal) = _
  rw [dist_toInt (by omega) (by omega)]; push_cast; rfl

variable {qf kf vf of : Fin 512 → Fin 512 → EReal} {lf df : Fin 512 → Fin 8 → EReal}

/-- A tile of 256 query rows over 128 key rows, from row `128 b` and lane `128 p` on: what its arrays hold where the rows exist. -/
structure Tile (qf kf vf of : Fin 512 → Fin 512 → EReal) (b p : Fin 4) (valid : IVec S256x128 1) (q o : FVec Ideal S256x128 .f32)
    (k v : FVec Ideal S128x128 .f32) : Prop where
  q_eq : ∀ (i : Fin 256) (x : Fin 128) (h : 128 * (b : ℕ) + i < 512), q (ix2 i x) = qf ⟨128 * b + i, h⟩ ⟨128 * p + x, by omega⟩
  o_eq : ∀ (i : Fin 256) (x : Fin 128) (h : 128 * (b : ℕ) + i < 512), o (ix2 i x) = of ⟨128 * b + i, h⟩ ⟨128 * p + x, by omega⟩
  k_eq : ∀ j x : Fin 128, k (ix2 j x) = kf ⟨128 * b + j, by omega⟩ ⟨128 * p + x, by omega⟩
  v_eq : ∀ j x : Fin 128, v (ix2 j x) = vf ⟨128 * b + j, by omega⟩ ⟨128 * p + x, by omega⟩
  valid_eq : ∀ (i : Fin 256) (j : Fin 128), valid (ix2 i j) = if ((j : ℕ) ≤ i ∧ (i : ℕ) ≤ j + 128) ∧ 128 * (b : ℕ) + i < 512 then 1#1 else 0#1

/-- One of the tile's two heads: its mask, its decay, its column of `lse` and of `delta`. -/
structure Half (lf df : Fin 512 → Fin 8 → EReal) (b p : Fin 4) (e : Fin 2) (s : Ideal .f32) (keep : IVec S128x128 1)
    (lse del : FVec Ideal S256x1 .f32) : Prop where
  s_eq : s = ((-(slope ⟨2 * p + e, by omega⟩ * 16) : ℝ) : EReal)
  keep_eq : ∀ j x : Fin 128, keep (ix2 j x) = if (x : ℕ) / 64 = e then 1#1 else 0#1
  lse_eq : ∀ (i : Fin 256) (h : 128 * (b : ℕ) + i < 512), lse (ix2 i 0) = lf ⟨128 * b + i, h⟩ ⟨2 * p + e, by omega⟩
  del_eq : ∀ (i : Fin 256) (h : 128 * (b : ℕ) + i < 512), del (ix2 i 0) = df ⟨128 * b + i, h⟩ ⟨2 * p + e, by omega⟩

variable {b p : Fin 4} {e : Fin 2} {valid : IVec S256x128 1} {q o : FVec Ideal S256x128 .f32}
  {k v : FVec Ideal S128x128 .f32} {s : Ideal .f32} {keep : IVec S128x128 1} {lse del : FVec Ideal S256x1 .f32}

theorem select_of_true (a b : EReal) : Scalar.select 1#1 a b = a := rfl

theorem select_of_false (a b : EReal) : Scalar.select 0#1 a b = b := rfl

/-- A sum over a pair's lanes that keeps one head's. -/
theorem sum_kept (f : Fin 128 → EReal) (j : Fin 128) (hk : ∀ j x : Fin 128, keep (ix2 j x) = if (x : ℕ) / 64 = e then 1#1 else 0#1) :
    (∑ x, Scalar.select (keep (ix2 j x)) (f x) 0) = ∑ x : Fin 64, f ⟨64 * e + x, by omega⟩ := by
  rw [← sum_head e e.isLt f]
  refine Finset.sum_congr rfl fun x _ => ?_
  rw [hk]
  by_cases h : (x : ℕ) / 64 = e
  · rw [if_pos h, if_pos h]; rfl
  · rw [if_neg h, if_neg h]; rfl

/-- The tile's weights are the branch's, and zero where the row does not exist. -/
theorem weights_eq (T : Tile qf kf vf of b p valid q o k v) (H : Half lf df b p e s keep lse del) (i : Fin 256) (j : Fin 128) :
    weights s keep valid lse q k (ix2 i j)
      = if h : 128 * (b : ℕ) + i < 512 then prob qf kf lf ⟨2 * p + e, by omega⟩ ⟨128 * b + i, h⟩ ⟨128 * b + j, by omega⟩ else 0 := by
  pointwise [weights, kept, k0_pay5, dist_at, mask, eighth]
  rw [sum_kept _ j H.keep_eq, T.valid_eq, H.s_eq]
  by_cases hv : ((j : ℕ) ≤ i ∧ (i : ℕ) ≤ j + 128) ∧ 128 * (b : ℕ) + i < 512
  · have hs : sees ⟨128 * b + i, hv.2⟩ ⟨128 * b + j, by omega⟩ := by
      constructor <;> simp only <;> omega
    rw [if_pos hv, dif_pos hv.2, prob, if_pos hs, H.lse_eq i hv.2]
    show Ideal.exp (_ + _ - _) = Ideal.exp (_ + _ - _)
    congr 2
    congr 1
    · congr 1
      refine Finset.sum_congr rfl fun x _ => ?_
      rw [T.q_eq i _ hv.2, T.k_eq]
      congr 2 <;> (ext; simp only; omega)
    · show ((-(slope _ * 16) : ℝ) : EReal) * (((i : ℝ) - j : ℝ) : EReal) = _
      rw [← EReal.coe_mul]; congr 1; push_cast; ring
  · have h0 : (if h : 128 * (b : ℕ) + i < 512 then prob qf kf lf ⟨2 * p + e, by omega⟩ ⟨128 * b + i, h⟩ ⟨128 * b + j, by omega⟩ else 0) = 0 := by
      split
      · rename_i h
        refine prob_of_not_sees _ _ _ fun hs => hv ⟨?_, h⟩
        obtain ⟨h1, h2⟩ := hs
        simp only at h1 h2
        omega
      · rfl
    rw [if_neg hv, h0]
    show Ideal.exp (_ + ⊥ - _) = 0
    rw [EReal.add_bot, EReal.bot_sub]
    simp

/-- The same of the scores' gradients. -/
theorem grads_eq (T : Tile qf kf vf of b p valid q o k v) (H : Half lf df b p e s keep lse del) (i : Fin 256) (j : Fin 128) :
    grads s keep valid lse del q o k v (ix2 i j)
      = if h : 128 * (b : ℕ) + i < 512 then
          dscore qf kf vf of lf df ⟨2 * p + e, by omega⟩ ⟨128 * b + i, h⟩ ⟨128 * b + j, by omega⟩ else 0 := by
  pointwise [grads, kept]
  rw [weights_eq T H, sum_kept _ j H.keep_eq]
  by_cases h : 128 * (b : ℕ) + i < 512
  · rw [dif_pos h, dif_pos h, H.del_eq i h, dscore]
    refine congrArg (_ * ·) (congrArg (· - _) ?_)
    refine Finset.sum_congr rfl fun x _ => ?_
    rw [T.o_eq i _ h, T.v_eq]
    congr 2 <;> (ext; simp only; omega)
  · rw [dif_neg h, dif_neg h, zero_mul]

/-- The lanes of the pair's second head. -/
def high : IVec S128x128 1 := xori k0_pay4 (constantI S128x128 1 1#1)

/-- The same of 256 rows. -/
def high2 : IVec S256x128 1 := xori k0_pay6 (constantI S256x128 1 1#1)

theorem low_at (j x : Fin 128) : k0_pay4 (ix2 j x) = if (x : ℕ) / 64 = 0 then 1#1 else 0#1 := by
  pointwise [k0_pay4]
  revert x; decide

theorem high_at (j x : Fin 128) : high (ix2 j x) = if (x : ℕ) / 64 = 1 then 1#1 else 0#1 := by
  pointwise [high, k0_pay4]
  revert x; decide

theorem low2_at (i : Fin 256) (x : Fin 128) : k0_pay6 (ix2 i x) = if (x : ℕ) / 64 = 0 then 1#1 else 0#1 := by
  pointwise [k0_pay6]
  revert x; decide

theorem high2_at (i : Fin 256) (x : Fin 128) : high2 (ix2 i x) = if (x : ℕ) / 64 = 1 then 1#1 else 0#1 := by
  pointwise [high2, k0_pay6]
  revert x; decide

variable (s0 s1 : Ideal .f32) (lse0 lse1 del0 del1 : FVec Ideal S256x1 .f32)

/-- The value gradients of a tile: each lane's from its own head. -/
def valuePiece (valid : IVec S256x128 1) (q o : FVec Ideal S256x128 .f32) (k : FVec Ideal S128x128 .f32) : FVec Ideal S128x128 .bf16 :=
  truncf .bf16 (select k0_pay4
    (matmul dot_S256x128_S256x128_S128x128_0_0_1_1_n_n none (truncf .bf16 (weights s0 k0_pay4 valid lse0 q k) bitsLt_bf16_f32)
      (kept2 k0_pay6 o) (constant S128x128 .f32 0x00000000#32))
    (matmul dot_S256x128_S256x128_S128x128_0_0_1_1_n_n none (truncf .bf16 (weights s1 high valid lse1 q k) bitsLt_bf16_f32)
      (kept2 high2 o) (constant S128x128 .f32 0x00000000#32))) bitsLt_bf16_f32

/-- The key gradients of a tile. -/
def keyPiece (valid : IVec S256x128 1) (q o : FVec Ideal S256x128 .f32) (k v : FVec Ideal S128x128 .f32) : FVec Ideal S128x128 .bf16 :=
  truncf .bf16 (select k0_pay4
    (mulf (matmul dot_S256x128_S256x128_S128x128_0_0_1_1_n_n none (grads s0 k0_pay4 valid lse0 del0 q o k v)
      (kept2 k0_pay6 q) (constant S128x128 .f32 0x00000000#32)) (broadcast S128x128 (Scalar.ofBits .f32 0x3E000000#32)))
    (mulf (matmul dot_S256x128_S256x128_S128x128_0_0_1_1_n_n none (grads s1 high valid lse1 del1 q o k v)
      (kept2 high2 q) (constant S128x128 .f32 0x00000000#32)) (broadcast S128x128 (Scalar.ofBits .f32 0x3E000000#32)))) bitsLt_bf16_f32

/-- The tile's part of the query gradients of its 256 rows. -/
def querySum (valid : IVec S256x128 1) (q o : FVec Ideal S256x128 .f32) (k v : FVec Ideal S128x128 .f32) : FVec Ideal S256x128 .f32 :=
  addf (matmul dot_S256x128_S128x128_S256x128_1_0_0_1_n_n none (grads s0 k0_pay4 valid lse0 del0 q o k v)
      (kept k0_pay4 k) (constant S256x128 .f32 0x00000000#32))
    (matmul dot_S256x128_S128x128_S256x128_1_0_0_1_n_n none (grads s1 high valid lse1 del1 q o k v)
      (kept high k) (constant S256x128 .f32 0x00000000#32))

/-- What the tile adds to the rows of its own block, -/
def queryPiece (prev : FVec Ideal S128x128 .f32) (sum : FVec Ideal S256x128 .f32) : FVec Ideal S128x128 .bf16 :=
  truncf .bf16 (addf prev (mulf (extractStridedSlice S128x128 ![0, 0] sum slices_S256x128_o0_0_S128x128)
    (broadcast S128x128 (Scalar.ofBits .f32 0x3E000000#32)))) bitsLt_bf16_f32

/-- and what it leaves for those of the next. -/
def queryRest (sum : FVec Ideal S256x128 .f32) : FVec Ideal S128x128 .f32 :=
  mulf (extractStridedSlice S128x128 ![128, 0] sum slices_S256x128_o128_0_S128x128) (broadcast S128x128 (Scalar.ofBits .f32 0x3E000000#32))

variable {s0 s1 lse0 lse1 del0 del1}

/-- The stored piece of the values' gradient is the branch's, -/
theorem valuePiece_eq (T : Tile qf kf vf of b p valid q o k v) (H0 : Half lf df b p 0 s0 k0_pay4 lse0 del0)
    (H1 : Half lf df b p 1 s1 high lse1 del1) (j x : Fin 128) :
    valuePiece s0 s1 lse0 lse1 valid q o k (ix2 j x) = Attention.dv qf kf of lf ⟨128 * b + j, by omega⟩ ⟨128 * p + x, by omega⟩ := by
  have key : ∀ (e : Fin 2), (x : ℕ) / 64 = e → (∑ i : Fin 256, (if h : 128 * (b : ℕ) + i < 512 then
      prob qf kf lf ⟨2 * p + e, by omega⟩ ⟨128 * b + i, h⟩ ⟨128 * b + j, by omega⟩ else 0) * o (ix2 i x))
        = Attention.dv qf kf of lf ⟨128 * b + j, by omega⟩ ⟨128 * p + x, by omega⟩ := by
    intro e he
    rw [Attention.dv, sum_from b b.isLt]
    · refine Finset.sum_congr rfl fun i _ => ?_
      by_cases h : 128 * (b : ℕ) + i < 512
      · rw [dif_pos h, dif_pos h, T.o_eq i x h]
        congr 2; ext; simp only; omega
      · rw [dif_neg h, dif_neg h, zero_mul]
    · intro i hi
      rw [prob_of_not_sees, zero_mul]
      rintro ⟨h1, h2⟩
      simp only at h1 h2
      omega
  pointwise [valuePiece, kept2]
  rw [low_at]
  by_cases hx : (x : ℕ) / 64 = 0
  · rw [if_pos hx, select_of_true, ← key 0 hx]
    refine Finset.sum_congr rfl fun i _ => ?_
    rw [weights_eq T H0, low2_at, if_pos hx, select_of_true]
  · have hx1 : (x : ℕ) / 64 = 1 := by omega
    rw [if_neg hx, select_of_false, ← key 1 hx1]
    refine Finset.sum_congr rfl fun i _ => ?_
    rw [weights_eq T H1, high2_at, if_pos hx1, select_of_true]

/-- and so is that of the keys'. -/
theorem keyPiece_eq (T : Tile qf kf vf of b p valid q o k v) (H0 : Half lf df b p 0 s0 k0_pay4 lse0 del0)
    (H1 : Half lf df b p 1 s1 high lse1 del1) (j x : Fin 128) :
    keyPiece s0 s1 lse0 lse1 del0 del1 valid q o k v (ix2 j x)
      = Attention.dk qf kf vf of lf df ⟨128 * b + j, by omega⟩ ⟨128 * p + x, by omega⟩ := by
  have key : ∀ (e : Fin 2), (x : ℕ) / 64 = e → (∑ i : Fin 256, (if h : 128 * (b : ℕ) + i < 512 then
      dscore qf kf vf of lf df ⟨2 * p + e, by omega⟩ ⟨128 * b + i, h⟩ ⟨128 * b + j, by omega⟩ else 0) * q (ix2 i x)) * ((1 / 8 : ℝ) : EReal)
        = Attention.dk qf kf vf of lf df ⟨128 * b + j, by omega⟩ ⟨128 * p + x, by omega⟩ := by
    intro e he
    rw [Attention.dk, sum_from b b.isLt]
    · congr 1
      refine Finset.sum_congr rfl fun i _ => ?_
      by_cases h : 128 * (b : ℕ) + i < 512
      · rw [dif_pos h, dif_pos h, T.q_eq i x h]
        congr 2; ext; simp only; omega
      · rw [dif_neg h, dif_neg h, zero_mul]
    · intro i hi
      rw [dscore_of_not_sees, zero_mul]
      rintro ⟨h1, h2⟩
      simp only at h1 h2
      omega
  pointwise [keyPiece, kept2, eighth]
  rw [low_at]
  by_cases hx : (x : ℕ) / 64 = 0
  · rw [if_pos hx, select_of_true, ← key 0 hx]
    refine congrArg (· * _) ?_
    refine Finset.sum_congr rfl fun i _ => ?_
    rw [grads_eq T H0, low2_at, if_pos hx, select_of_true]
  · have hx1 : (x : ℕ) / 64 = 1 := by omega
    rw [if_neg hx, select_of_false, ← key 1 hx1]
    refine congrArg (· * _) ?_
    refine Finset.sum_congr rfl fun i _ => ?_
    rw [grads_eq T H1, high2_at, if_pos hx1, select_of_true]

/-- A tile's part of the query gradients: the block's 128 keys only. -/
theorem querySum_eq (T : Tile qf kf vf of b p valid q o k v) (H0 : Half lf df b p 0 s0 k0_pay4 lse0 del0)
    (H1 : Half lf df b p 1 s1 high lse1 del1) (i : Fin 256) (x : Fin 128) (h : 128 * (b : ℕ) + i < 512) :
    querySum s0 s1 lse0 lse1 del0 del1 valid q o k v (ix2 i x)
      = ∑ j : Fin 128, dscore qf kf vf of lf df (head ⟨128 * p + x, by omega⟩) ⟨128 * b + i, h⟩ ⟨128 * b + j, by omega⟩
          * kf ⟨128 * b + j, by omega⟩ ⟨128 * p + x, by omega⟩ := by
  pointwise [querySum, kept]
  by_cases hx : (x : ℕ) / 64 = 0
  · rw [Finset.sum_eq_zero (f := fun j => Scalar.select (high (ix2 j x)) _ 0)
      (fun j _ => by rw [high_at, if_neg (by omega)]; rfl), add_zero]
    refine Finset.sum_congr rfl fun j _ => ?_
    rw [grads_eq T H0, low_at, if_pos hx, dif_pos h, T.k_eq]
    show dscore qf kf vf of lf df _ _ _ * _ = _
    congr 2; ext; simp only; omega
  · have hx1 : (x : ℕ) / 64 = 1 := by omega
    rw [Finset.sum_eq_zero (f := fun j => Scalar.select (k0_pay4 (ix2 j x)) _ 0)
      (fun j _ => by rw [low_at, if_neg hx]; rfl), zero_add]
    refine Finset.sum_congr rfl fun j _ => ?_
    rw [grads_eq T H1, high_at, if_pos hx1, dif_pos h, T.k_eq]
    show dscore qf kf vf of lf df _ _ _ * _ = _
    congr 2; ext; simp only; omega

/-- The validity mask: a key at most 128 rows back, and a row that exists (`n` says whether the next block does). -/
theorem valid_at (n : BitVec 1) (b : Fin 4) (hn : n = if (b : ℕ) < 3 then 1#1 else 0#1) (i : Fin 256) (j : Fin 128) :
    IntOp.andi (IntOp.andi (IntOp.cmpi .sge (IntOp.subi (BitVec.ofNat 32 i) (BitVec.ofNat 32 j)) 0#32)
        (IntOp.cmpi .sle (IntOp.subi (BitVec.ofNat 32 i) (BitVec.ofNat 32 j)) 128#32))
      (IntOp.ori (IntOp.cmpi .slt (BitVec.ofNat 32 i) 128#32) n)
      = if ((j : ℕ) ≤ i ∧ (i : ℕ) ≤ j + 128) ∧ 128 * (b : ℕ) + i < 512 then 1#1 else 0#1 := by
  have hi : (BitVec.ofNat 32 (i : ℕ)).toInt = i := row_toInt (by omega)
  have h3 : IntOp.cmpi .slt (BitVec.ofNat 32 (i : ℕ)) 128#32 = if (i : ℕ) < 128 then 1#1 else 0#1 := by
    have : (128#32).toInt = 128 := by decide
    simp only [IntOp.cmpi, BitVec.slt_eq_decide, hi, this]
    by_cases h : (i : ℕ) < 128
    · rw [if_pos h, decide_eq_true (by omega)]; rfl
    · rw [if_neg h, decide_eq_false (by omega)]; rfl
  rw [band (by omega) (by omega), h3, hn]
  have hb : ((i : ℕ) < 128 ∨ (b : ℕ) < 3) ↔ 128 * (b : ℕ) + i < 512 := by omega
  simp only [← hb]
  by_cases a1 : (j : ℕ) ≤ i ∧ (i : ℕ) ≤ j + 128 <;> by_cases a3 : (i : ℕ) < 128 <;> by_cases a4 : (b : ℕ) < 3 <;>
    simp only [a1, a3, a4, if_true, if_false, true_and, and_true, false_and, and_false, or_true, true_or, or_false, or_self] <;> decide

/-- The words of the decays: each head's half the last one's. -/
theorem decay_at (w : BitVec 32) (h : Fin 8) (hw : w.toNat + h * 8388608 = 3238002688) :
    (FloatOps.ofBits .f32 w : Ideal .f32) = ((-(slope h * 16) : ℝ) : EReal) := by
  rw [halved w h hw, Attention.slope]

end Cert.Kernel2Ideal.AttentionPiece
end
-- ==== Proof.AttentionBlock.lean ====
/-
  The kernel's blocks at a grid point as plain functions of rows and lanes.
-/
module

public import proofs.«01_k».proof.Proof.AttentionPiece
public import proofs.«01_k».proof.Proof.Gen.Kernel2Ideal.Value

@[expose] public section

set_option maxRecDepth 16384

noncomputable section

open Idealize.ShloMosaic Idealize.ShloMosaic.TcCoe

namespace Cert.Kernel2Ideal.AttentionBlock

open Cert.Kernel2Ideal Cert.Kernel2Ideal.Gen Cert.Attention Cert.Kernel2Ideal.AttentionPiece Cert.Words

variable (m : (ℓ : Loc nD τ sig) → Buf (Elt Ideal) ℓ)

/-- The queries of the point's residue class, -/
abbrev qb (c : Dev nD) (t : Fin cfg0.N) (i l : Fin 512) : EReal := (show FVec Ideal S512x512 .bf16 from iblk m c 2 t) (ix2 i l)
/-- its keys, -/
abbrev kb (c : Dev nD) (t : Fin cfg0.N) (i l : Fin 512) : EReal := (show FVec Ideal S512x512 .bf16 from iblk m c 0 t) (ix2 i l)
/-- its values, -/
abbrev vb (c : Dev nD) (t : Fin cfg0.N) (i l : Fin 512) : EReal := (show FVec Ideal S512x512 .bf16 from iblk m c 1 t) (ix2 i l)
/-- the cotangents of its outputs, -/
abbrev ob (c : Dev nD) (t : Fin cfg0.N) (i l : Fin 512) : EReal := (show FVec Ideal S512x512 .bf16 from iblk m c 4 t) (ix2 i l)
/-- the number each row and head takes from its scores, -/
abbrev lb (c : Dev nD) (t : Fin cfg0.N) (i : Fin 512) (h : Fin 8) : EReal := (show FVec Ideal S512x128 .f32 from iblk m c 6 t) (ix2 i ⟨h, by omega⟩)
/-- and the one it takes from its scores' gradients. -/
abbrev db (c : Dev nD) (t : Fin cfg0.N) (i : Fin 512) (h : Fin 8) : EReal := (show FVec Ideal S512x128 .f32 from iblk m c 8 t) (ix2 i ⟨h, by omega⟩)

/-- The grid's second axis has one point: no next one. -/
theorem no_next : ∀ t : Fin cfg0.N, Scalar.cmpi .slt (BitVec.ofNat 32 (grid0.coords t 1 : ℕ)) 0#32 = 0#1 := by decide +kernel

end Cert.Kernel2Ideal.AttentionBlock
end
-- ==== Proof.AttentionKey.lean ====
/-
  The keys' gradient at a grid point: sixteen stored pieces, four blocks of rows by four pairs of heads.
-/
module

public import proofs.«01_k».proof.Proof.AttentionBlock

@[expose] public section

set_option maxRecDepth 16384

noncomputable section

open Idealize.ShloMosaic Idealize.ShloMosaic.TcCoe

namespace Cert.Kernel2Ideal.AttentionBlock

open Cert.Kernel2Ideal Cert.Kernel2Ideal.Gen Cert.Attention Cert.Kernel2Ideal.AttentionPiece Cert.Words

variable (m : (ℓ : Loc nD τ sig) → Buf (Elt Ideal) ℓ)

set_option maxHeartbeats 8000000 in
/-- What the point leaves in the block. -/
theorem point10 (c : Dev nD) (t : Fin cfg0.N) (i l : Fin 512) :
    (outsAt0 m c t).1 (ix2 i l) = Attention.dk (qb m c t) (kb m c t) (vb m c t) (ob m c t) (lb m c t) (db m c t) i l := by
  unfold Gen.outsAt0
  frame_out
  canon_tiles x h
  all_goals
    obtain ⟨j, x, rfl⟩ : ∃ j l, x = ix2 j l := ⟨x 0, x 1, by funext a; fin_cases a <;> rfl⟩
    dsimp only [ix2] at h0 h1 x0_lt x1_lt
    refine (keyPiece_eq (b := ⟨i / 128, by omega⟩) (p := ⟨l / 128, by omega⟩) (qf := qb m c t) (kf := kb m c t) (vf := vb m c t)
      (of := ob m c t) (lf := lb m c t) (df := db m c t) ⟨?_, ?_, ?_, ?_, ?_⟩ ⟨?_, ?_, ?_, ?_⟩ ⟨?_, ?_, ?_, ?_⟩ j x).trans ?_
    · intro a z h; simp only at h; open_payloads; pointwise [Memref.IsWhole.read_unread]; split <;> first | omega | blk_ext
    · intro a z h; simp only at h; open_payloads; pointwise [Memref.IsWhole.read_unread]; split <;> first | omega | blk_ext
    · intro a z; open_payloads; pointwise [Memref.IsWhole.read_unread]; blk_ext
    · intro a z; open_payloads; pointwise [Memref.IsWhole.read_unread]; blk_ext
    · intro a z; open_payloads; pointwise [Memref.IsWhole.read_unread]; refine valid_at _ ⟨i / 128, by omega⟩ ?_ a z; first | rw [if_pos (by simp only; omega)] | (rw [if_neg (by simp only; omega)]; first | exact no_next t | rfl)
    · exact decay_at _ _ (by simp; omega)
    · exact fun a z => low_at a z
    · intro a h; simp only at h; open_payloads; pointwise [Memref.IsWhole.read_unread]; split <;> first | omega | blk_ext
    · intro a h; simp only at h; open_payloads; pointwise [Memref.IsWhole.read_unread]; split <;> first | omega | blk_ext
    · exact decay_at _ _ (by simp; omega)
    · exact fun a z => high_at a z
    · intro a h; simp only at h; open_payloads; pointwise [Memref.IsWhole.read_unread]; split <;> first | omega | blk_ext
    · intro a h; simp only at h; open_payloads; pointwise [Memref.IsWhole.read_unread]; split <;> first | omega | blk_ext
    · congr 1 <;> (ext; simp only; omega)

end Cert.Kernel2Ideal.AttentionBlock
end
-- ==== Proof.AttentionValue.lean ====
/-
  The values' gradient at a grid point: sixteen stored pieces, four blocks of rows by four pairs of heads.
-/
module

public import proofs.«01_k».proof.Proof.AttentionBlock

@[expose] public section

set_option maxRecDepth 16384

noncomputable section

open Idealize.ShloMosaic Idealize.ShloMosaic.TcCoe

namespace Cert.Kernel2Ideal.AttentionBlock

open Cert.Kernel2Ideal Cert.Kernel2Ideal.Gen Cert.Attention Cert.Kernel2Ideal.AttentionPiece Cert.Words

variable (m : (ℓ : Loc nD τ sig) → Buf (Elt Ideal) ℓ)

set_option maxHeartbeats 8000000 in
/-- What the point leaves in the block. -/
theorem point11 (c : Dev nD) (t : Fin cfg0.N) (i l : Fin 512) :
    (outsAt0 m c t).2.1 (ix2 i l) = Attention.dv (qb m c t) (kb m c t) (ob m c t) (lb m c t) i l := by
  unfold Gen.outsAt0
  frame_out
  canon_tiles x h
  all_goals
    obtain ⟨j, x, rfl⟩ : ∃ j l, x = ix2 j l := ⟨x 0, x 1, by funext a; fin_cases a <;> rfl⟩
    dsimp only [ix2] at h0 h1 x0_lt x1_lt
    refine (valuePiece_eq (b := ⟨i / 128, by omega⟩) (p := ⟨l / 128, by omega⟩) (qf := qb m c t) (kf := kb m c t) (vf := fun _ _ => 0)
      (of := ob m c t) (lf := lb m c t) (df := fun _ _ => 0)
      (v := fun _ => 0) (del0 := fun _ => 0) (del1 := fun _ => 0) ⟨?_, ?_, ?_, ?_, ?_⟩ ⟨?_, ?_, ?_, ?_⟩ ⟨?_, ?_, ?_, ?_⟩ j x).trans ?_
    · intro a z h; simp only at h; open_payloads; pointwise [Memref.IsWhole.read_unread]; split <;> first | omega | blk_ext
    · intro a z h; simp only at h; open_payloads; pointwise [Memref.IsWhole.read_unread]; split <;> first | omega | blk_ext
    · intro a z; open_payloads; pointwise [Memref.IsWhole.read_unread]; blk_ext
    · intro a z; rfl
    · intro a z; open_payloads; pointwise [Memref.IsWhole.read_unread]; refine valid_at _ ⟨i / 128, by omega⟩ ?_ a z; first | rw [if_pos (by simp only; omega)] | (rw [if_neg (by simp only; omega)]; first | exact no_next t | rfl)
    · exact decay_at _ _ (by simp; omega)
    · exact fun a z => low_at a z
    · intro a h; simp only at h; open_payloads; pointwise [Memref.IsWhole.read_unread]; split <;> first | omega | blk_ext
    · intro a h; rfl
    · exact decay_at _ _ (by simp; omega)
    · exact fun a z => high_at a z
    · intro a h; simp only at h; open_payloads; pointwise [Memref.IsWhole.read_unread]; split <;> first | omega | blk_ext
    · intro a h; rfl
    · congr 1 <;> (ext; simp only; omega)
end Cert.Kernel2Ideal.AttentionBlock
end
-- ==== Proof.AttentionQuery.lean ====
/-
  The queries' gradient at a grid point: each piece sums what its block's tile gives and what the tile before left for it.
-/
module

public import proofs.«01_k».proof.Proof.AttentionBlock
public import Idealize.ShloMosaic.Lib.Pipeline.ReadBack

@[expose] public section

set_option maxRecDepth 16384

noncomputable section

open Idealize.ShloMosaic Idealize.ShloMosaic.TcCoe

namespace Cert.Kernel2Ideal.AttentionBlock

open Cert.Kernel2Ideal Cert.Kernel2Ideal.Gen Cert.Attention Cert.Kernel2Ideal.AttentionPiece Cert.Words

variable (m : (ℓ : Loc nD τ sig) → Buf (Elt Ideal) ℓ)

/-- A row of the first block sees that block's keys only, -/
theorem queryPiece_first {qf kf vf of : Fin 512 → Fin 512 → EReal} {lf df : Fin 512 → Fin 8 → EReal} {p : Fin 4} {prev : FVec Ideal S128x128 .f32}
    {sum : FVec Ideal S256x128 .f32} (hp : ∀ i, prev i = 0) (i x : Fin 128) (b : Fin 4) (hb : (b : ℕ) = 0)
    (hs : sum (ix2 ⟨i, by omega⟩ x) = ∑ j : Fin 128, dscore qf kf vf of lf df (head ⟨128 * p + x, by omega⟩) ⟨128 * b + i, by omega⟩ ⟨128 * b + j, by omega⟩
          * kf ⟨128 * b + j, by omega⟩ ⟨128 * p + x, by omega⟩) :
    queryPiece prev sum (ix2 i x) = Attention.dq qf kf vf of lf df ⟨128 * b + i, by omega⟩ ⟨128 * p + x, by omega⟩ := by
  obtain rfl : b = 0 := by ext; exact hb
  pointwise [queryPiece, eighth]
  rw [hp, zero_add, hs, Attention.dq, sum_first]
  · refine congrArg (· * _) (Finset.sum_congr rfl fun j _ => ?_)
    congr 2 <;> (ext; simp)
  · intro j hj
    rw [dscore_of_not_sees, zero_mul]
    rintro ⟨h1, h2⟩
    simp at h1
    omega

/-- and one of a later block those of the block before too. -/
theorem queryPiece_next {qf kf vf of : Fin 512 → Fin 512 → EReal} {lf df : Fin 512 → Fin 8 → EReal} {p : Fin 4}
    {sum sum' : FVec Ideal S256x128 .f32} (i x : Fin 128) (b b' : Fin 4) (hb : (b : ℕ) = b' + 1)
    (hs' : sum' (ix2 ⟨128 + i, by omega⟩ x) = ∑ j : Fin 128, dscore qf kf vf of lf df (head ⟨128 * p + x, by omega⟩)
          ⟨128 * b' + (128 + i), by omega⟩ ⟨128 * b' + j, by omega⟩ * kf ⟨128 * b' + j, by omega⟩ ⟨128 * p + x, by omega⟩)
    (hs : sum (ix2 ⟨i, by omega⟩ x) = ∑ j : Fin 128, dscore qf kf vf of lf df (head ⟨128 * p + x, by omega⟩) ⟨128 * b + i, by omega⟩ ⟨128 * b + j, by omega⟩
          * kf ⟨128 * b + j, by omega⟩ ⟨128 * p + x, by omega⟩) :
    queryPiece (queryRest sum') sum (ix2 i x) = Attention.dq qf kf vf of lf df ⟨128 * b + i, by omega⟩ ⟨128 * p + x, by omega⟩ := by
  pointwise [queryPiece, queryRest, eighth]
  rw [hs, hs', Attention.dq, sum_upto b' (by omega),
    ← EReal.right_distrib_of_nonneg_of_ne_top (EReal.coe_nonneg.mpr (by norm_num)) (EReal.coe_ne_top _)]
  · refine congrArg (· * _) (congrArg₂ (· + ·) ?_ ?_)
    · refine Finset.sum_congr rfl fun j _ => ?_
      congr 2; ext; simp; omega
    · refine Finset.sum_congr rfl fun j _ => ?_
      congr 2 <;> (ext; simp; omega)
  · intro j hj
    rw [dscore_of_not_sees, zero_mul]
    rintro ⟨h1, h2⟩
    simp only at h1 h2
    omega

set_option maxHeartbeats 8000000 in
/-- What the point leaves in the block. -/
theorem point12 (c : Dev nD) (t : Fin cfg0.N) (i l : Fin 512) :
    (outsAt0 m c t).2.2 (ix2 i l) = Attention.dq (qb m c t) (kb m c t) (vb m c t) (ob m c t) (lb m c t) (db m c t) i l := by
  unfold Gen.outsAt0
  frame_out
  canon_tiles x h
  all_goals
    obtain ⟨j, x, rfl⟩ : ∃ j l, x = ix2 j l := ⟨x 0, x 1, by funext a; fin_cases a <;> rfl⟩
    dsimp only [ix2] at h0 h1 x0_lt x1_lt
  case piece12 | piece13 | piece14 | piece15 =>
    refine (queryPiece_first (b := ⟨i / 128, by omega⟩) (p := ⟨l / 128, by omega⟩) (qf := qb m c t) (kf := kb m c t) (vf := vb m c t)
      (of := ob m c t) (lf := lb m c t) (df := db m c t) ?zero j x (by simp only; omega)
      (querySum_eq (b := ⟨i / 128, by omega⟩) (p := ⟨l / 128, by omega⟩) (?tile : Tile ..) (?even : Half ..) (?odd : Half ..) ⟨j, by omega⟩ x
        (by simp only; omega))).trans ?same
    case zero =>
      intro y
      simp (disch := decide) only [View.readCov_fill]
      pointwise
    case same => congr 1 <;> (ext; simp only; omega)
    case tile =>
      refine ⟨?_, ?_, ?_, ?_, ?_⟩
      · intro a z h; simp only at h; open_payloads; pointwise [Memref.IsWhole.read_unread]; split <;> first | omega | blk_ext
      · intro a z h; simp only at h; open_payloads; pointwise [Memref.IsWhole.read_unread]; split <;> first | omega | blk_ext
      · intro a z; open_payloads; pointwise [Memref.IsWhole.read_unread]; blk_ext
      · intro a z; open_payloads; pointwise [Memref.IsWhole.read_unread]; blk_ext
      · intro a z; open_payloads; pointwise; refine valid_at _ ⟨i / 128, by omega⟩ ?_ a z; rw [if_pos (by simp only; omega)]
    case even =>
      refine ⟨?_, ?_, ?_, ?_⟩
      · exact decay_at _ _ (by simp; omega)
      · exact fun a z => low_at a z
      · intro a h; simp only at h; open_payloads; pointwise [Memref.IsWhole.read_unread]; split <;> first | omega | blk_ext
      · intro a h; simp only at h; open_payloads; pointwise [Memref.IsWhole.read_unread]; split <;> first | omega | blk_ext
    case odd =>
      refine ⟨?_, ?_, ?_, ?_⟩
      · exact decay_at _ _ (by simp; omega)
      · exact fun a z => high_at a z
      · intro a h; simp only at h; open_payloads; pointwise [Memref.IsWhole.read_unread]; split <;> first | omega | blk_ext
      · intro a h; simp only at h; open_payloads; pointwise [Memref.IsWhole.read_unread]; split <;> first | omega | blk_ext
  all_goals
    refine (queryPiece_next (b := ⟨i / 128, by omega⟩) (b' := ⟨i / 128 - 1, by omega⟩) (p := ⟨l / 128, by omega⟩) (qf := qb m c t)
      (kf := kb m c t) (vf := vb m c t) (of := ob m c t) (lf := lb m c t) (df := db m c t) j x (by simp only; omega)
      (querySum_eq (b := ⟨i / 128 - 1, by omega⟩) (p := ⟨l / 128, by omega⟩) (?tile' : Tile ..) (?even' : Half ..) (?odd' : Half ..) ⟨128 + j, by omega⟩ x
        (by simp only; omega))
      (querySum_eq (b := ⟨i / 128, by omega⟩) (p := ⟨l / 128, by omega⟩) (?tile : Tile ..) (?even : Half ..) (?odd : Half ..) ⟨j, by omega⟩ x
        (by simp only; omega))).trans ?same
    case same => congr 1 <;> (ext; simp only; omega)
    case tile' =>
      refine ⟨?_, ?_, ?_, ?_, ?_⟩
      · intro a z h; simp only at h; open_payloads; pointwise [Memref.IsWhole.read_unread]; split <;> first | omega | blk_ext
      · intro a z h; simp only at h; open_payloads; pointwise [Memref.IsWhole.read_unread]; split <;> first | omega | blk_ext
      · intro a z; open_payloads; pointwise [Memref.IsWhole.read_unread]; blk_ext
      · intro a z; open_payloads; pointwise [Memref.IsWhole.read_unread]; blk_ext
      · intro a z; open_payloads; pointwise; refine valid_at _ ⟨i / 128 - 1, by omega⟩ ?_ a z; rw [if_pos (by simp only; omega)]
    case even' =>
      refine ⟨?_, ?_, ?_, ?_⟩
      · exact decay_at _ _ (by simp; omega)
      · exact fun a z => low_at a z
      · intro a h; simp only at h; open_payloads; pointwise [Memref.IsWhole.read_unread]; split <;> first | omega | blk_ext
      · intro a h; simp only at h; open_payloads; pointwise [Memref.IsWhole.read_unread]; split <;> first | omega | blk_ext
    case odd' =>
      refine ⟨?_, ?_, ?_, ?_⟩
      · exact decay_at _ _ (by simp; omega)
      · exact fun a z => high_at a z
      · intro a h; simp only at h; open_payloads; pointwise [Memref.IsWhole.read_unread]; split <;> first | omega | blk_ext
      · intro a h; simp only at h; open_payloads; pointwise [Memref.IsWhole.read_unread]; split <;> first | omega | blk_ext
    case tile =>
      refine ⟨?_, ?_, ?_, ?_, ?_⟩
      · intro a z h; simp only at h; open_payloads; pointwise [Memref.IsWhole.read_unread]; split <;> first | omega | blk_ext
      · intro a z h; simp only at h; open_payloads; pointwise [Memref.IsWhole.read_unread]; split <;> first | omega | blk_ext
      · intro a z; open_payloads; pointwise [Memref.IsWhole.read_unread]; blk_ext
      · intro a z; open_payloads; pointwise [Memref.IsWhole.read_unread]; blk_ext
      · intro a z; open_payloads; pointwise; refine valid_at _ ⟨i / 128, by omega⟩ ?_ a z; first | rw [if_pos (by simp only; omega)] | (rw [if_neg (by simp only; omega)]; first | exact no_next t | rfl)
    case even =>
      refine ⟨?_, ?_, ?_, ?_⟩
      · exact decay_at _ _ (by simp; omega)
      · exact fun a z => low_at a z
      · intro a h; simp only at h; open_payloads; pointwise [Memref.IsWhole.read_unread]; split <;> first | omega | blk_ext
      · intro a h; simp only at h; open_payloads; pointwise [Memref.IsWhole.read_unread]; split <;> first | omega | blk_ext
    case odd =>
      refine ⟨?_, ?_, ?_, ?_⟩
      · exact decay_at _ _ (by simp; omega)
      · exact fun a z => high_at a z
      · intro a h; simp only at h; open_payloads; pointwise [Memref.IsWhole.read_unread]; split <;> first | omega | blk_ext
      · intro a h; simp only at h; open_payloads; pointwise [Memref.IsWhole.read_unread]; split <;> first | omega | blk_ext

end Cert.Kernel2Ideal.AttentionBlock
end
-- ==== Proof.AttentionArrays.lean ====
/-
  The three gradients of one dilation's branch as arrays of the branch's arguments: token `16 i + r` is row `i` of residue
  class `r`, and the results lay the classes side by side, 512 lanes each.
-/
module

public import proofs.«01_k».proof.Proof.Attention

@[expose] public section

noncomputable section

open Idealize.ShloMosaic

namespace Cert.Attention

variable (qkv : FVec Ideal ⟨2, ![8192, 1536]⟩ .bf16) (o : FVec Ideal ⟨2, ![8192, 512]⟩ .bf16)
  (lse del : FVec Ideal ⟨2, ![8192, 128]⟩ .f32)

/-- The queries of a residue class, -/
def queries (r : Fin 16) (i l : Fin 512) : EReal := qkv (ix2 ⟨16 * i + r, by omega⟩ ⟨l, by omega⟩)

/-- its keys, -/
def keys (r : Fin 16) (i l : Fin 512) : EReal := qkv (ix2 ⟨16 * i + r, by omega⟩ ⟨512 + l, by omega⟩)

/-- its values, -/
def values (r : Fin 16) (i l : Fin 512) : EReal := qkv (ix2 ⟨16 * i + r, by omega⟩ ⟨1024 + l, by omega⟩)

/-- the cotangents of its outputs, -/
def cotangents (r : Fin 16) (i l : Fin 512) : EReal := o (ix2 ⟨16 * i + r, by omega⟩ l)

/-- and one number per row and head. -/
def perHead (a : FVec Ideal ⟨2, ![8192, 128]⟩ .f32) (r : Fin 16) (i : Fin 512) (h : Fin 8) : EReal :=
  a (ix2 ⟨16 * i + r, by omega⟩ ⟨h, by omega⟩)

/-- The residue class of a result's lane. -/
abbrev class_ (l : Fin 8192) : Fin 16 := ⟨l / 512, by omega⟩

/-- The lane within the class. -/
abbrev within (l : Fin 8192) : Fin 512 := ⟨l % 512, by omega⟩

def keyGrads : FVec Ideal ⟨2, ![512, 8192]⟩ .bf16 := fun y =>
  dk (queries qkv (class_ (y 1))) (keys qkv (class_ (y 1))) (values qkv (class_ (y 1))) (cotangents o (class_ (y 1)))
    (perHead lse (class_ (y 1))) (perHead del (class_ (y 1))) (y 0) (within (y 1))

def valueGrads : FVec Ideal ⟨2, ![512, 8192]⟩ .bf16 := fun y =>
  dv (queries qkv (class_ (y 1))) (keys qkv (class_ (y 1))) (cotangents o (class_ (y 1)))
    (perHead lse (class_ (y 1))) (y 0) (within (y 1))

def queryGrads : FVec Ideal ⟨2, ![512, 8192]⟩ .bf16 := fun y =>
  dq (queries qkv (class_ (y 1))) (keys qkv (class_ (y 1))) (values qkv (class_ (y 1))) (cotangents o (class_ (y 1)))
    (perHead lse (class_ (y 1))) (perHead del (class_ (y 1))) (y 0) (within (y 1))

end Cert.Attention
end
-- ==== Proof.AttentionGrad.lean ====
/-
  The gradient of dilated attention at dilation 16 as the kernel leaves it: each of the sixteen points fills the 512 lanes of
  one residue class.
-/
module

public import proofs.«01_k».proof.Proof.AttentionBlock
public import proofs.«01_k».proof.Proof.AttentionKey
public import proofs.«01_k».proof.Proof.AttentionValue
public import proofs.«01_k».proof.Proof.AttentionQuery
public import proofs.«01_k».proof.Proof.AttentionArrays

@[expose] public section

set_option maxRecDepth 16384

noncomputable section

namespace Cert.Kernel2Ideal.AttentionGrad

open Idealize.ShloMosaic Idealize.ShloMosaic.TcCoe
open Cert.Kernel2Ideal Cert.Kernel2Ideal.Gen Cert.Attention Cert.Kernel2Ideal.AttentionBlock

variable (m : (ℓ : Loc nD τ sig) → Buf (Elt Ideal) ℓ)

/-- Every window's block at a point. -/
theorem idx_val : ∀ t : Fin cfg0.N, win0_0.index t = ![0, 3 * t.val + 1] ∧ win0_1.index t = ![0, 3 * t.val + 2]
    ∧ win0_2.index t = ![0, 3 * t.val] ∧ win0_4.index t = ![0, t.val] ∧ win0_6.index t = ![0, t.val] ∧ win0_8.index t = ![0, t.val]
    ∧ win0_10.index t = ![0, t.val] ∧ win0_11.index t = ![0, t.val] ∧ win0_12.index t = ![0, t.val] :=
  (by decide +kernel : ∀ t : Fin grid0.N, _)

/-- The blocks of the point of a residue class are that class's rows. -/
theorem qb_eq (c : Dev nD) (t : Fin cfg0.N) (r : Fin 16) (hr : (r : ℕ) = t) :
    qb m c t = queries (m ((c : Thread nD τ).loc main_arg0)) r := by
  funext i l
  unfold qb queries
  blk_simp [iblk, idx_val t]
  entry_read
  pointwise
  blk_ext [idx_val t]

theorem kb_eq (c : Dev nD) (t : Fin cfg0.N) (r : Fin 16) (hr : (r : ℕ) = t) :
    kb m c t = keys (m ((c : Thread nD τ).loc main_arg0)) r := by
  funext i l
  unfold kb keys
  blk_simp [iblk, idx_val t]
  entry_read
  pointwise
  blk_ext [idx_val t]

theorem vb_eq (c : Dev nD) (t : Fin cfg0.N) (r : Fin 16) (hr : (r : ℕ) = t) :
    vb m c t = values (m ((c : Thread nD τ).loc main_arg0)) r := by
  funext i l
  unfold vb values
  blk_simp [iblk, idx_val t]
  entry_read
  pointwise
  blk_ext [idx_val t]

theorem ob_eq (c : Dev nD) (t : Fin cfg0.N) (r : Fin 16) (hr : (r : ℕ) = t) :
    ob m c t = cotangents (m ((c : Thread nD τ).loc main_arg1)) r := by
  funext i l
  unfold ob cotangents
  blk_simp [iblk, idx_val t]
  entry_read
  pointwise
  blk_ext [idx_val t]

theorem lb_eq (c : Dev nD) (t : Fin cfg0.N) (r : Fin 16) (hr : (r : ℕ) = t) :
    lb m c t = perHead (m ((c : Thread nD τ).loc main_arg2)) r := by
  funext i l
  unfold lb perHead
  blk_simp [iblk, idx_val t]
  entry_read
  pointwise
  blk_ext [idx_val t]

theorem db_eq (c : Dev nD) (t : Fin cfg0.N) (r : Fin 16) (hr : (r : ℕ) = t) :
    db m c t = perHead (m ((c : Thread nD τ).loc main_arg3)) r := by
  funext i l
  unfold db perHead
  blk_simp [iblk, idx_val t]
  entry_read
  pointwise
  blk_ext [idx_val t]

/-- The grid has a point for each class. -/
theorem points (t : Fin cfg0.N) : (t : ℕ) < 16 := lt_of_lt_of_eq t.isLt N_0

/-- A result's lane names its class and the lane within it. -/
theorem class_within (y : Fin 8192) (r : Fin 16) (l : Fin 512) (h : (y : ℕ) = 512 * r + l) : class_ y = r ∧ within y = l := by
  constructor <;> (ext; simp only; omega)

/-- The keys' gradients fill their array, -/
theorem final_key (c : Dev nD) : (dats m 0 c).arrAt 10 (cfgs 0).N
    = keyGrads (m ((c : Thread nD τ).loc main_arg0)) (m ((c : Thread nD τ).loc main_arg1)) (m ((c : Thread nD τ).loc main_arg2))
        (m ((c : Thread nD τ).loc main_arg3)) := by
  refine (dats m 0 c).arrAt_eq_of_covers 10 _ (by decide +kernel) fun t _ y => ?_
  blk_simp
  rw [after0_10]
  obtain ⟨i, l, rfl⟩ : ∃ i l, y = ix2 i l := ⟨y 0, y 1, by funext a; fin_cases a <;> rfl⟩
  have ht := points t
  obtain ⟨hc, hw⟩ := class_within ((((cfg0.win 10).blk t).view.emb (ix2 i l)) 1) ⟨t, ht⟩ l (by show _ = 512 * (t : ℕ) + l; blk_simp [idx_val t]; omega)
  have h0 : (((cfg0.win 10).blk t).view.emb (ix2 i l)) 0 = i := by ext; blk_simp [idx_val t]
  refine (point10 m c t i l).trans ?_
  rw [qb_eq m c t ⟨t, ht⟩ rfl, kb_eq m c t ⟨t, ht⟩ rfl, vb_eq m c t ⟨t, ht⟩ rfl, ob_eq m c t ⟨t, ht⟩ rfl, lb_eq m c t ⟨t, ht⟩ rfl,
    db_eq m c t ⟨t, ht⟩ rfl]
  unfold keyGrads
  rw [hc, hw, h0]

/-- the values' theirs, -/
theorem final_value (c : Dev nD) : (dats m 0 c).arrAt 11 (cfgs 0).N
    = valueGrads (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  obtain ⟨i, l, rfl⟩ : ∃ i l, y = ix2 i l := ⟨y 0, y 1, by funext a; fin_cases a <;> rfl⟩
  have ht := points t
  obtain ⟨hc, hw⟩ := class_within ((((cfg0.win 11).blk t).view.emb (ix2 i l)) 1) ⟨t, ht⟩ l (by show _ = 512 * (t : ℕ) + l; blk_simp [idx_val t]; omega)
  have h0 : (((cfg0.win 11).blk t).view.emb (ix2 i l)) 0 = i := by ext; blk_simp [idx_val t]
  refine (point11 m c t i l).trans ?_
  rw [qb_eq m c t ⟨t, ht⟩ rfl, kb_eq m c t ⟨t, ht⟩ rfl, ob_eq m c t ⟨t, ht⟩ rfl, lb_eq m c t ⟨t, ht⟩ rfl]
  unfold valueGrads
  rw [hc, hw, h0]

/-- and the queries' theirs. -/
theorem final_query (c : Dev nD) : (dats m 0 c).arrAt 12 (cfgs 0).N
    = queryGrads (m ((c : Thread nD τ).loc main_arg0)) (m ((c : Thread nD τ).loc main_arg1)) (m ((c : Thread nD τ).loc main_arg2))
        (m ((c : Thread nD τ).loc main_arg3)) := by
  refine (dats m 0 c).arrAt_eq_of_covers 12 _ (by decide +kernel) fun t _ y => ?_
  blk_simp
  rw [after0_12]
  obtain ⟨i, l, rfl⟩ : ∃ i l, y = ix2 i l := ⟨y 0, y 1, by funext a; fin_cases a <;> rfl⟩
  have ht := points t
  obtain ⟨hc, hw⟩ := class_within ((((cfg0.win 12).blk t).view.emb (ix2 i l)) 1) ⟨t, ht⟩ l (by show _ = 512 * (t : ℕ) + l; blk_simp [idx_val t]; omega)
  have h0 : (((cfg0.win 12).blk t).view.emb (ix2 i l)) 0 = i := by ext; blk_simp [idx_val t]
  refine (point12 m c t i l).trans ?_
  rw [qb_eq m c t ⟨t, ht⟩ rfl, kb_eq m c t ⟨t, ht⟩ rfl, vb_eq m c t ⟨t, ht⟩ rfl, ob_eq m c t ⟨t, ht⟩ rfl, lb_eq m c t ⟨t, ht⟩ rfl,
    db_eq m c t ⟨t, ht⟩ rfl]
  unfold queryGrads
  rw [hc, hw, h0]

end Cert.Kernel2Ideal.AttentionGrad
end
-- ==== Proof.AttentionReference.lean ====
/-
  The reference's two gradients of one branch, read stage by stage: its weights, its scores' gradients, and the three results.
-/
module

public import proofs.«01_k».proof.Proof.AttentionArrays
public import proofs.«01_k».proof.Proof.Words
public import proofs.«01_k».proof.Proof.Gen.Reference2Ideal.Read
public import Idealize.ShloMosaic.Lib.Pipeline.ValueKit

@[expose] public section

set_option maxRecDepth 16384

noncomputable section

open Idealize.ShloMosaic Idealize.ShloMosaic.TcCoe

namespace Cert.Reference2Ideal.AttentionReference

open Cert.Reference2Ideal Cert.Reference2Ideal.Read Cert.Attention Cert.Words

variable (x0 : FVec Ideal S8192x1536 .bf16) (x1 : FVec Ideal S8192x512 .bf16) (x2 x3 : FVec Ideal S8192x128 .f32)

/-- The head's queries of a residue class, -/
theorem queries_at (r : Fin 16) (h : Fin 8) (i : Fin 512) (x : Fin 64) :
    val_main_v11 (F := Ideal) x0 (ix4 r h i x) = queries x0 r i (lane h x) := by
  pointwise [val_main_v11, val_main_v10, val_main_v9, val_main_v6, queries]
  blk_ext

/-- its keys, -/
theorem keys_at (r : Fin 16) (h : Fin 8) (i : Fin 512) (x : Fin 64) :
    val_main_v14 (F := Ideal) x0 (ix4 r h i x) = keys x0 r i (lane h x) := by
  pointwise [val_main_v14, val_main_v13, val_main_v12, val_main_v7, keys]
  blk_ext

/-- its values, -/
theorem values_at (r : Fin 16) (h : Fin 8) (i : Fin 512) (x : Fin 64) :
    val_main_v17 (F := Ideal) x0 (ix4 r h i x) = values x0 r i (lane h x) := by
  pointwise [val_main_v17, val_main_v16, val_main_v15, val_main_v8, values]
  blk_ext

/-- its outputs' cotangents, -/
theorem cotangents_at (r : Fin 16) (h : Fin 8) (i : Fin 512) (x : Fin 64) :
    val_main_v56 (F := Ideal) x1 (ix4 r h i x) = cotangents x1 r i (lane h x) := by
  pointwise [val_main_v56, val_main_v55, val_main_v54, cotangents]
  blk_ext

/-- and the number its scores are taken from. -/
theorem lse_at (r : Fin 16) (h : Fin 8) (i : Fin 512) (x : Fin 1) :
    val_main_v47 (F := Ideal) x2 (ix4 r h i x) = perHead x2 r i h := by
  pointwise [val_main_v47, val_main_v46, val_main_v45, perHead]
  blk_ext

/-- The band of keys a row sees, -/
theorem band_at (r : Fin 16) (h : Fin 8) (i j : Fin 512) :
    val_main_v44_1 (F := Ideal) (ix4 r h i j) = if sees i j then 1#1 else 0#1 := by
  pointwise [val_main_v44_1, val_main_v29, val_main_v28, val_main_v27, val_main_c_1, val_main_v26, val_main_v25, val_main_c_0, val_main_v24,
    val_main_v23, val_main_v22, val_main_v21, val_main_v20, val_main_v19, val_main_v18]
  exact band i.isLt j.isLt

/-- the decay of a head, -/
theorem slope_at (h : Fin 8) : val_main_v5 (F := Ideal) (ix1 h) = ((slope h : ℝ) : EReal) := by
  pointwise [val_main_v5, val_main_v4, val_main_cst, val_main_v3, val_main_v2, val_main_v1, val_main_c, val_main_v0]
  show Ideal.div 1 (((IntOp.shli ArithUnit.host 2#32 (BitVec.ofNat 32 (h : ℕ))).toInt : ℝ) : EReal) = _
  have hw : (IntOp.shli ArithUnit.host 2#32 (BitVec.ofNat 32 (h : ℕ))).toInt = 2 ^ ((h : ℕ) + 1) := by
    revert h; decide
  rw [hw, Ideal.div_coe (by positivity), one_mul, Attention.slope]
  push_cast; rfl

/-- and what it takes from a score. -/
theorem decay_at (r : Fin 16) (h : Fin 8) (i j : Fin 512) :
    val_main_v42 (F := Ideal) (ix4 r h i j) = ((slope h * (16 * ((i : ℝ) - j)) : ℝ) : EReal) := by
  pointwise [val_main_v42, val_main_v41, val_main_v40, val_main_v39, val_main_v38, val_main_v37, val_main_v36, val_main_v35, val_main_v34, val_main_c_3,
    val_main_v33, val_main_v24, val_main_v23, val_main_v22, val_main_v21, val_main_v20, val_main_v19, val_main_v18, slope_at]
  have hd : (IntOp.muli 16#32 (IntOp.subi (BitVec.ofNat 32 (i : ℕ)) (BitVec.ofNat 32 (j : ℕ)))).toInt = 16 * ((i : ℤ) - j) := by
    have := i.isLt; have := j.isLt
    have h16 : (16#32).toInt = 16 := by decide
    simp only [IntOp.muli, BitVec.toInt_mul]
    rw [dist_toInt i.isLt j.isLt, h16]
    simp only [Int.bmod]
    omega
  show _ * (((IntOp.muli 16#32 (IntOp.subi (BitVec.ofNat 32 (i : ℕ)) (BitVec.ofNat 32 (j : ℕ)))).toInt : ℝ) : EReal) = _
  rw [hd, ← EReal.coe_mul]
  push_cast; rfl

/-- The weights, -/
theorem weights_at (r : Fin 16) (h : Fin 8) (i j : Fin 512) :
    val_main_v50 (F := Ideal) x0 x2 (ix4 r h i j) = prob (queries x0 r) (keys x0 r) (perHead x2 r) h i j := by
  pointwise [val_main_v50, val_main_v49, val_main_v48, val_main_v44_0, val_main_call0_v2, val_main_call0_v0, val_main_cst_4, val_main_v43, val_main_v32,
    val_main_v31, val_main_v30, val_main_cst_2, queries_at, keys_at, lse_at, band_at, decay_at, eighth, ofBits_neg_inf]
  by_cases hs : sees i j
  · rw [if_pos hs, prob, if_pos hs]
    show Ideal.exp (_ - _ - _) = _
    rw [sub_eq_add_neg (_ * _), ← EReal.coe_neg]
  · rw [if_neg hs, prob, if_neg hs]
    show Ideal.exp (⊥ - _) = 0
    rw [EReal.bot_sub]; simp

/-- and the gradients of the scores, before the reference scales them. -/
theorem dscores_at (r : Fin 16) (h : Fin 8) (i j : Fin 512) :
    val_main_v68 (F := Ideal) x0 x1 x2 x3 (ix4 r h i j)
      = dscore (queries x0 r) (keys x0 r) (values x0 r) (cotangents x1 r) (perHead x2 r) (perHead x3 r) h i j := by
  pointwise [val_main_v68, val_main_call1_v0, val_main_call1_cst, val_main_v67, val_main_v66, val_main_v65, val_main_v62, val_main_v61, val_main_v60,
    val_main_v59, val_main_v58, val_main_v57, val_main_cst_6, band_at, cotangents_at, values_at, weights_at]
  by_cases hs : sees i j
  · rw [if_pos hs, dscore]
    show (_ + _) * _ = _
    rw [mul_comm, add_comm, Fin.sum_univ_one, ← sub_eq_add_neg]
    rw [show x3 (ix2 ⟨(i : ℕ) * 16 + r, by omega⟩ ⟨h, by omega⟩) = perHead x3 r i h from by unfold perHead; blk_ext]
  · rw [if_neg hs, dscore, prob, if_neg hs, zero_mul]
    rfl

/-- A factor of each summand, a real that is not negative, may be taken from the sum. -/
theorem sum_scaled {n : ℕ} (a b : Fin n → EReal) (c : ℝ) (hc : 0 ≤ c) :
    ∑ i, a i * (c : EReal) * b i = (∑ i, a i * b i) * (c : EReal) := by
  have key : ∀ s : Finset (Fin n), ∑ i ∈ s, a i * (c : EReal) * b i = (∑ i ∈ s, a i * b i) * (c : EReal) := by
    intro s
    induction s using Finset.induction_on with
    | empty => simp
    | insert i s hi ih =>
      rw [Finset.sum_insert hi, Finset.sum_insert hi, ih,
        EReal.right_distrib_of_nonneg_of_ne_top (EReal.coe_nonneg.2 hc) (EReal.coe_ne_top c), mul_right_comm]
  exact key _

/-- The results: the keys' gradient, -/
theorem key_result : val_main_v75 (F := Ideal) x0 x1 x2 x3 = keyGrads x0 x1 x2 x3 := by
  funext i
  pointwise [val_main_v75, val_main_v74, val_main_v73, val_main_v71, val_main_v70, val_main_v69, val_main_cst_7, queries_at, dscores_at, eighth]
  rw [sum_scaled _ _ _ (by norm_num)]
  unfold keyGrads Attention.dk
  refine congrArg (· * _) (Finset.sum_congr rfl fun x _ => ?_)
  congr 2 <;> (ext; simp only; omega)

/-- the values', -/
theorem value_result : val_main_v78 (F := Ideal) x0 x1 x2 = valueGrads x0 x1 x2 := by
  funext i
  pointwise [val_main_v78, val_main_v77, val_main_v76, val_main_v64, val_main_v63, cotangents_at, weights_at]
  unfold valueGrads Attention.dv
  refine Finset.sum_congr rfl fun x _ => ?_
  rw [mul_comm]
  congr 2 <;> (ext; simp only; omega)

/-- and the queries'. -/
theorem query_result : val_main_v81 (F := Ideal) x0 x1 x2 x3 = queryGrads x0 x1 x2 x3 := by
  funext i
  pointwise [val_main_v81, val_main_v80, val_main_v79, val_main_v72, val_main_v70, val_main_v69, val_main_cst_7, keys_at, dscores_at, eighth]
  rw [sum_scaled _ _ _ (by norm_num)]
  unfold queryGrads Attention.dq
  refine congrArg (· * _) (Finset.sum_congr rfl fun x _ => ?_)
  congr 2 <;> (ext; simp only; omega)

end Cert.Reference2Ideal.AttentionReference
end
-- ==== Proof.AttentionClaim.lean ====
/-
  The attention gradient's claims: the kernel's three gradients are the reference's, whatever the arguments hold.
-/
module

public import proofs.«01_k».proof.Defs
public import proofs.«01_k».proof.Proof.AttentionGrad
public import proofs.«01_k».proof.Proof.AttentionReference
public import proofs.«01_k».proof.Proof.Gen.Kernel2.Frame

@[expose] public section

set_option maxRecDepth 16384

noncomputable section

namespace Cert.Proof

open Idealize.ShloMosaic Idealize.ShloMosaic.TcCoe Idealize.SL.Sem
open Cert.Reference2Ideal.AttentionReference

theorem attention_algebraic : Cert.algebraic_Kernel2Ideal_Reference2Ideal := by
  pair_intro
  · run_from Cert.Kernel2Ideal.Gen.run_main m g
  · run_from Cert.Reference2Ideal.Value.run m' g'
    · rw [Cert.Kernel2Ideal.AttentionGrad.final_key, Cert.Reference2Ideal.Read.val_main_v75_eq, key_result, (hagree c).1, (hagree c).2.1,
        (hagree c).2.2.1, (hagree c).2.2.2]
    · rw [Cert.Kernel2Ideal.AttentionGrad.final_value]
      refine (Cert.Reference2Ideal.Read.val_main_v78_eq _ _ _).trans ?_
      rw [value_result]
    · rw [Cert.Kernel2Ideal.AttentionGrad.final_query, Cert.Reference2Ideal.Read.val_main_v81_eq, query_result, (hagree c).1, (hagree c).2.1,
        (hagree c).2.2.1, (hagree c).2.2.2]

/-- The named constant is the pattern of `-1e30` read as `-∞`. -/
theorem attention_preserves : Cert.preserves_Kernel2_Kernel2Ideal :=
  IdealRules.named_const.statement Cert.Kernel2Ideal.κ "mask" .f32 0xF149F2CA#32 ⊥ rfl

theorem attention_frame : Cert.quiescent_Kernel2 := fun m ρ _ => Cert.Kernel2.Gen.frame m ρ
theorem attention_frame_ideal : Cert.quiescent_Kernel2Ideal := fun m ρ _ => Cert.Kernel2Ideal.Gen.frame m ρ
theorem attention_frame_reference : Cert.quiescent_Reference2Ideal := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

end Cert.Proof

end
-- ==== Proof.DownWeight.lean ====
/-
  The gradient of the down projection's weight: the kernel adds eight blocks of rows into each of two column blocks of the
  result, the reference contracts all 8192 rows at once.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.DownWeight

open Cert.Kernel3Ideal Cert.Kernel3Ideal.Gen

/-- The weight's gradient: `actᵀ · dx`. -/
def grad (act : FVec Ideal S8192x3072 .bf16) (dx : FVec Ideal S8192x1024 .f32) : FVec Ideal S3072x1024 .f32 :=
  fun i => ∑ l : Fin 8192, act (ix2 l (i 0)) * dx (ix2 l (i 1))

theorem grad_apply (act : FVec Ideal S8192x3072 .bf16) (dx : FVec Ideal S8192x1024 .f32) (i) :
    grad act dx i = ∑ l : Fin 8192, act (ix2 l (i 0)) * dx (ix2 l (i 1)) := rfl

variable (m : (ℓ : Loc nD τ sig) → Buf (Elt Ideal) ℓ)

/-- A run's first point clears the block, -/
theorem zeros (j) : k0_pay1 (F := Ideal) j = 0 := by pointwise [k0_pay1]

/-- and every point adds the product of its two row blocks. -/
theorem adds (acc : FVec Ideal S1536x1024 .f32) (a : FVec Ideal S1024x1536 .bf16) (d : FVec Ideal S1024x1024 .f32) (j) :
    k0_pay2 acc a d j = acc j + ∑ k : Fin 1024, a (ix2 k (j 0)) * d (ix2 k (j 1)) := by
  pointwise [k0_pay2]

/-- Every window's block at a point: the run is the column block, the point within it the row block. -/
theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

/-- The weight's gradient fills the result. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [adds, zeros])
    (fun t h j => by rw [outsAt0_B m c t h]; frame_out; rw [adds])
    t ((flush0_2 t).mp hf) _, zero_add, grad_apply]
  refine Fin.sum_mul_add_congr fun s k hl => ?_
  blk_point [iblk, V, idx t, idx ⟨_, Pipeline.run_point_lt_of_flush t ((flush0_2 t).mp hf) s⟩]

end Cert.Kernel3Ideal.DownWeight

namespace Cert.Proof

theorem down_algebraic : Cert.algebraic_Kernel3Ideal_Reference3Ideal := by
  pair_intro
  · run_from Cert.Kernel3Ideal.Gen.run_main m g
  · run_from Cert.Reference3Ideal.Value.run m' g'
    rw [Cert.Kernel3Ideal.DownWeight.final]
    funext i
    pointwise [Cert.Kernel3Ideal.DownWeight.grad]
    exact Finset.sum_congr rfl fun _ _ => mul_comm _ _

theorem down_frame : Cert.quiescent_Kernel3 := fun m ρ _ => Cert.Kernel3.Gen.frame m ρ
theorem down_frame_ideal : Cert.quiescent_Kernel3Ideal := fun m ρ _ => Cert.Kernel3Ideal.Gen.frame m ρ
theorem down_frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

end Cert.Proof

end
-- ==== Proof.UpWeight.lean ====
/-
  The gradient of a gated unit's input weight (the gate's or the up projection's): the kernel adds eight blocks of rows into each
  of two column blocks of the result, the reference contracts all 8192 rows at once.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.UpWeight

open Cert.Kernel4Ideal Cert.Kernel4Ideal.Gen

/-- The weight's gradient: `hᵀ · dy`. -/
def grad (h : FVec Ideal S8192x1024 .bf16) (dy : FVec Ideal S8192x3072 .bf16) : FVec Ideal S1024x3072 .f32 :=
  fun i => ∑ l : Fin 8192, h (ix2 l (i 0)) * dy (ix2 l (i 1))

theorem grad_apply (h : FVec Ideal S8192x1024 .bf16) (dy : FVec Ideal S8192x3072 .bf16) (i) :
    grad h dy i = ∑ l : Fin 8192, h (ix2 l (i 0)) * dy (ix2 l (i 1)) := rfl

variable (m : (ℓ : Loc nD τ sig) → Buf (Elt Ideal) ℓ)

/-- A run's first point clears the block, -/
theorem zeros (j) : k0_pay1 (F := Ideal) j = 0 := by pointwise [k0_pay1]

/-- and every point adds the product of its two row blocks. -/
theorem adds (acc : FVec Ideal S1024x1536 .f32) (a : FVec Ideal S1024x1024 .bf16) (d : FVec Ideal S1024x1536 .bf16) (j) :
    k0_pay2 acc a d j = acc j + ∑ k : Fin 1024, a (ix2 k (j 0)) * d (ix2 k (j 1)) := by
  pointwise [k0_pay2]

/-- Every window's block at a point: the run is the column block, the point within it the row block. -/
theorem idy : ∀ t : Fin cfg0.N, win0_0.index t = ![t.val % 8, 0] ∧ win0_1.index t = ![t.val % 8, t.val / 8]
    ∧ win0_2.index t = ![0, t.val / 8] :=
  (by decide +kernel : ∀ t : Fin grid0.N, _)

/-- The weight's gradient fills the result. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [adds, zeros])
    (fun t h j => by rw [outsAt0_B m c t h]; frame_out; rw [adds])
    t ((flush0_2 t).mp hf) _, zero_add, grad_apply]
  refine Fin.sum_mul_add_congr fun s k hl => ?_
  blk_point [iblk, V, idy t, idy ⟨_, Pipeline.run_point_lt_of_flush t ((flush0_2 t).mp hf) s⟩]

end Cert.Kernel4Ideal.UpWeight

namespace Cert.Proof

theorem up_algebraic : Cert.algebraic_Kernel4Ideal_Reference4Ideal := by
  pair_intro
  · run_from Cert.Kernel4Ideal.Gen.run_main m g
  · run_from Cert.Reference4Ideal.Value.run m' g'
    rw [Cert.Kernel4Ideal.UpWeight.final]
    funext i
    pointwise [Cert.Kernel4Ideal.UpWeight.grad]
    exact Finset.sum_congr rfl fun _ _ => mul_comm _ _

theorem up_frame : Cert.quiescent_Kernel4 := fun m ρ _ => Cert.Kernel4.Gen.frame m ρ
theorem up_frame_ideal : Cert.quiescent_Kernel4Ideal := fun m ρ _ => Cert.Kernel4Ideal.Gen.frame m ρ
theorem up_frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

end Cert.Proof

end
-- ==== Proof.GateInput.lean ====
/-
  The gradient of a gated unit's input: the kernel multiplies row blocks of the two gradients by column blocks of the two
  transposed weights and adds, the reference differentiates the two products.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.GateInput

open Cert.Kernel5Ideal Cert.Kernel5Ideal.Gen

/-- The input's gradient: `dgate · w_gateᵀ + dup · w_upᵀ`. -/
def grad (dg du : FVec Ideal S8192x3072 .bf16) (wg wu : FVec Ideal S1024x3072 .bf16) : FVec Ideal S8192x1024 .f32 :=
  fun i => (∑ l : Fin 3072, dg (ix2 (i 0) l) * wg (ix2 (i 1) l)) + ∑ l : Fin 3072, du (ix2 (i 0) l) * wu (ix2 (i 1) l)

variable (m : (ℓ : Loc nD τ sig) → Buf (Elt Ideal) ℓ)

/-- Every window's block at a point: sixteen row blocks, two column blocks each. -/
theorem idx_val : ∀ t : Fin cfg0.N, win0_0.index t = ![t.val / 2, 0] ∧ win0_1.index t = ![t.val / 2, 0]
    ∧ win0_2.index t = ![0, t.val % 2] ∧ win0_3.index t = ![0, t.val % 2] ∧ win0_4.index t = ![t.val / 2, t.val % 2] :=
  (by decide +kernel : ∀ t : Fin grid0.N, _)

/-- What a point stores at `y` is the gradient where `y` lies in the array. -/
theorem point (c : Dev nD) (t : Fin cfg0.N) (y) :
    k0_pay1 (iblk m c 2 t) (iblk m c 0 t) (iblk m c 3 t) (iblk m c 1 t) y
      = grad (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay1, grad]
  show (_ : EReal) + _ = _ + _
  refine congrArg₂ (· + ·) (Finset.sum_congr rfl fun l _ => congrArg₂ (· * ·) ?_ ?_)
    (Finset.sum_congr rfl fun l _ => congrArg₂ (· * ·) ?_ ?_)
  all_goals
    blk_simp [iblk, idx_val t]
    entry_read
    pointwise
    blk_ext [idx_val t]

/-- The input's gradient fills the result. -/
theorem final (c : Dev nD) : (dats m 0 c).arrAt 4 (cfgs 0).N
    = grad (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]; frame_out
  exact point m c t y

end Cert.Kernel5Ideal.GateInput

namespace Cert.Proof

theorem input_algebraic : Cert.algebraic_Kernel5Ideal_Reference5Ideal := by
  pair_intro
  · run_from Cert.Kernel5Ideal.Gen.run_main m g
  · run_from Cert.Reference5Ideal.Value.run m' g'
    rw [Cert.Kernel5Ideal.GateInput.final]
    funext i
    pointwise [Cert.Kernel5Ideal.GateInput.grad]
    exact add_comm _ _

theorem input_frame : Cert.quiescent_Kernel5 := fun m ρ _ => Cert.Kernel5.Gen.frame m ρ
theorem input_frame_ideal : Cert.quiescent_Kernel5Ideal := fun m ρ _ => Cert.Kernel5Ideal.Gen.frame m ρ
theorem input_frame_reference : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

end Cert.Proof

end
-- ==== Proof.GateForward.lean ====
/-
  A gated unit's forward products: the kernel multiplies row blocks by column blocks of the two weights and gates in the same
  pass, the reference takes the two products whole.
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.GateForward

open Cert.Kernel6Ideal Cert.Kernel6Ideal.Gen

/-- A product of the input with a weight. -/
def proj (h : FVec Ideal S8192x1024 .bf16) (w : FVec Ideal S1024x3072 .bf16) : FVec Ideal S8192x3072 .bf16 :=
  fun i => ∑ l : Fin 1024, h (ix2 (i 0) l) * w (ix2 l (i 1))

/-- The gated product `silu(h · w_gate) · (h · w_up)`. -/
def gated (h : FVec Ideal S8192x1024 .bf16) (wg wu : FVec Ideal S1024x3072 .bf16) : FVec Ideal S8192x3072 .bf16 :=
  fun i => proj h wg i * Ideal.div 1 (1 + Ideal.exp (-(proj h wg i))) * proj h wu i

variable (m : (ℓ : Loc nD τ sig) → Buf (Elt Ideal) ℓ)

/-- Every window's block at a point: sixteen row blocks, two column blocks each. -/
theorem idx_val : ∀ t : Fin cfg0.N, win0_0.index t = ![t.val / 2, 0] ∧ win0_1.index t = ![0, t.val % 2]
    ∧ win0_2.index t = ![0, t.val % 2] ∧ win0_3.index t = ![t.val / 2, t.val % 2]
    ∧ win0_4.index t = ![t.val / 2, t.val % 2] ∧ win0_5.index t = ![t.val / 2, t.val % 2] :=
  (by decide +kernel : ∀ t : Fin grid0.N, _)

/-- What a point stores at `y` is the gate's product where `y` lies in the array, -/
theorem point_gate (c : Dev nD) (t : Fin cfg0.N) (y) :
    k0_pay3 (iblk m c 0 t) (iblk m c 1 t) y
      = proj (m ((c : Thread nD τ).loc main_arg0)) (m ((c : Thread nD τ).loc main_arg1)) (((cfg0.win 3).blk t).view.emb y) := by
  pointwise [k0_pay3, k0_pay1, proj]
  blk_point [iblk, V, idx_val t]

/-- the up product, -/
theorem point_up (c : Dev nD) (t : Fin cfg0.N) (y) :
    k0_pay4 (iblk m c 0 t) (iblk m c 2 t) y
      = proj (m ((c : Thread nD τ).loc main_arg0)) (m ((c : Thread nD τ).loc main_arg2)) (((cfg0.win 4).blk t).view.emb y) := by
  pointwise [k0_pay4, k0_pay2, proj]
  blk_point [iblk, V, idx_val t]

/-- and the gated product. -/
theorem point_act (c : Dev nD) (t : Fin cfg0.N) (y) :
    k0_pay5 (iblk m c 0 t) (iblk m c 1 t) (iblk m c 2 t) y
      = gated (m ((c : Thread nD τ).loc main_arg0)) (m ((c : Thread nD τ).loc main_arg1)) (m ((c : Thread nD τ).loc main_arg2))
          (((cfg0.win 5).blk t).view.emb y) := by
  pointwise [k0_pay5, k0_pay1, k0_pay2, gated, proj, zero_sub]
  blk_point [iblk, V, idx_val t]

/-- The gate's product fills its array, -/
theorem final_gate (c : Dev nD) : (dats m 0 c).arrAt 3 (cfgs 0).N
    = proj (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_gate m c t y

/-- the up product its own, -/
theorem final_up (c : Dev nD) : (dats m 0 c).arrAt 4 (cfgs 0).N
    = proj (m ((c : Thread nD τ).loc main_arg0)) (m ((c : Thread nD τ).loc main_arg2)) := by
  refine (dats m 0 c).arrAt_eq_of_covers 4 _ (by decide +kernel) fun t _ y => ?_
  blk_simp
  rw [after0_4]; frame_out
  exact point_up m c t y

/-- and the gated product its own. -/
theorem final_act (c : Dev nD) : (dats m 0 c).arrAt 5 (cfgs 0).N
    = gated (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  exact point_act m c t y

end Cert.Kernel6Ideal.GateForward

namespace Cert.Proof

theorem forward_algebraic : Cert.algebraic_Kernel6Ideal_Reference6Ideal := by
  pair_intro
  · run_from Cert.Kernel6Ideal.Gen.run_main m g
  · run_from Cert.Reference6Ideal.Value.run m' g'
    · rw [Cert.Kernel6Ideal.GateForward.final_gate]
      funext i
      pointwise! [Cert.Kernel6Ideal.GateForward.proj]
    · rw [Cert.Kernel6Ideal.GateForward.final_up]
      funext i
      pointwise! [Cert.Kernel6Ideal.GateForward.proj]
    · rw [Cert.Kernel6Ideal.GateForward.final_act]
      funext i
      pointwise! [Cert.Kernel6Ideal.GateForward.gated, Cert.Kernel6Ideal.GateForward.proj]

theorem forward_frame : Cert.quiescent_Kernel6 := fun m ρ _ => Cert.Kernel6.Gen.frame m ρ
theorem forward_frame_ideal : Cert.quiescent_Kernel6Ideal := fun m ρ _ => Cert.Kernel6Ideal.Gen.frame m ρ
theorem forward_frame_reference : Cert.quiescent_Reference6Ideal := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

end Cert.Proof

end
-- ==== Proof.DownForward.lean ====
/-
  The block's second product: the kernel multiplies row blocks by column blocks of the weight and adds the residual.
-/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.DownForward

open Cert.Kernel7Ideal Cert.Kernel7Ideal.Gen

/-- The residual plus `act · w_down`. -/
def out (act : FVec Ideal S8192x3072 .bf16) (w : FVec Ideal S3072x1024 .bf16) (x : FVec Ideal S8192x1024 .f32) : FVec Ideal S8192x1024 .f32 :=
  fun i => x i + ∑ l : Fin 3072, act (ix2 (i 0) l) * w (ix2 l (i 1))

variable (m : (ℓ : Loc nD τ sig) → Buf (Elt Ideal) ℓ)

/-- Every window's block at a point: sixteen row blocks, two column blocks each. -/
theorem idx_val : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

/-- What a point stores at `y` is the sum where `y` lies in the array. -/
theorem point (c : Dev nD) (t : Fin cfg0.N) (y) :
    k0_pay1 (iblk m c 1 t) (iblk m c 0 t) (iblk m c 2 t) y
      = out (m ((c : Thread nD τ).loc main_arg0)) (m ((c : Thread nD τ).loc main_arg1)) (m ((c : Thread nD τ).loc main_arg2)) (((cfg0.win 3).blk t).view.emb y) := by
  pointwise [k0_pay1, out]
  rw [add_comm]
  blk_point [iblk, V, idx_val t]

/-- The sum fills the result. -/
theorem final (c : Dev nD) : (dats m 0 c).arrAt 3 (cfgs 0).N
    = out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel7Ideal.DownForward

namespace Cert.Proof

theorem residual_algebraic : Cert.algebraic_Kernel7Ideal_Reference7Ideal := by
  pair_intro
  · run_from Cert.Kernel7Ideal.Gen.run_main m g
  · run_from Cert.Reference7Ideal.Value.run m' g'
    rw [Cert.Kernel7Ideal.DownForward.final]
    funext i
    pointwise! [Cert.Kernel7Ideal.DownForward.out]

theorem residual_frame : Cert.quiescent_Kernel7 := fun m ρ _ => Cert.Kernel7.Gen.frame m ρ
theorem residual_frame_ideal : Cert.quiescent_Kernel7Ideal := fun m ρ _ => Cert.Kernel7Ideal.Gen.frame m ρ
theorem residual_frame_reference : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

end Cert.Proof

end
-- ==== Proof.MixerInput.lean ====
/-
  The gradient of the mixer's input: the kernel adds eight products of row blocks with the transposed weight's row blocks, the
  reference differentiates eight products with the weight's columns.
-/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.MixerInput

open Cert.Kernel8Ideal Cert.Kernel8Ideal.Gen

/-- A product with `n` of the weight's columns. -/
def part {n : ℕ} (off : ℕ) (h : off + n ≤ 4224) (a : Fin n → EReal) (w : FVec Ideal S1024x4224 .bf16) (j : Fin 1024) : EReal :=
  ∑ l : Fin n, a l * w (ix2 j ⟨off + l.val, by omega⟩)

/-- The input's gradient: the eight products added in the kernel's order. -/
def grad (dq dk dv : FVec Ideal S8192x512 .bf16) (dc : FVec Ideal S8192x1024 .f32) (dz dg dl : FVec Ideal S8192x512 .f32)
    (dt : FVec Ideal S8192x128 .f32) (w : FVec Ideal S1024x4224 .bf16) : FVec Ideal S8192x1024 .f32 :=
  fun i => part 0 (by decide) (fun l : Fin 512 => dq (ix2 (i 0) l)) w (i 1)
    + part 512 (by decide) (fun l : Fin 512 => dk (ix2 (i 0) l)) w (i 1)
    + part 1024 (by decide) (fun l : Fin 512 => dv (ix2 (i 0) l)) w (i 1)
    + part 1536 (by decide) (fun l : Fin 1024 => dc (ix2 (i 0) l)) w (i 1)
    + part 2560 (by decide) (fun l : Fin 512 => dz (ix2 (i 0) l)) w (i 1)
    + part 3072 (by decide) (fun l : Fin 512 => dg (ix2 (i 0) l)) w (i 1)
    + part 3584 (by decide) (fun l : Fin 512 => dl (ix2 (i 0) l)) w (i 1)
    + part 4096 (by decide) (fun l : Fin 128 => dt (ix2 (i 0) l)) w (i 1)

variable (m : (ℓ : Loc nD τ sig) → Buf (Elt Ideal) ℓ)

/-- Every window's block at a point: sixteen row blocks, two column blocks each. -/
theorem idx_val : ∀ t : Fin cfg0.N, win0_0.index t = ![t.val / 2, 0] ∧ win0_1.index t = ![t.val / 2, 0] ∧ win0_2.index t = ![t.val / 2, 0] ∧ win0_3.index t = ![t.val / 2, 0] ∧ win0_4.index t = ![t.val / 2, 0] ∧ win0_5.index t = ![t.val / 2, 0] ∧ win0_6.index t = ![t.val / 2, 0] ∧ win0_7.index t = ![t.val / 2, 0]
    ∧ win0_8.index t = ![0, t.val % 2] ∧ win0_9.index t = ![t.val / 2, t.val % 2] :=
  (by decide +kernel : ∀ t : Fin grid0.N, _)

/-- The weight's block, transposed on the host, holds the weight's rows from `512 (t % 2)` on. -/
theorem column (c : Dev nD) (t : Fin cfg0.N) (k : Fin 4224) (j : Fin 512) (i : Fin 1024) (h : (i : ℕ) = t.val % 2 * 512 + j.val) :
    iblk m c 8 t (ix2 k j) = m ((c : Thread nD τ).loc main_arg8) (ix2 i k) := by
  blk_simp [iblk, idx_val t]
  entry_read
  pointwise
  blk_ext [idx_val t]

/-- The input's gradient fills the result. -/
theorem final (c : Dev nD) : (dats m 0 c).arrAt 9 (cfgs 0).N
    = grad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]; frame_out
  pointwise [k0_pay1, k0_pay2, k0_pay3, grad, part]
  show (_ : EReal) + _ + _ + _ + _ + _ + _ + _ = _ + _ + _ + _ + _ + _ + _ + _
  have hy : (((View.whole main_v1).slice (win0_9.rect t)).emb y 1 : ℕ) = t.val % 2 * 512 + (y 1 : ℕ) := by
    blk_simp [idx_val t]
  refine congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_
  all_goals
    refine Finset.sum_congr rfl fun l _ => congrArg₂ (· * ·) ?_ (column m c t _ _ _ hy)
    blk_point [iblk, V, idx_val t]

end Cert.Kernel8Ideal.MixerInput

namespace Cert.Proof

/-- Eight terms added from the last to the first. -/
theorem reversed (a b c d e f g h : EReal) :
    h + g + f + e + d + c + b + a = a + b + c + d + e + f + g + h := by ac_rfl

theorem mixer_algebraic : Cert.algebraic_Kernel8Ideal_Reference8Ideal := by
  pair_intro
  · run_from Cert.Kernel8Ideal.Gen.run_main m g
  · run_from Cert.Reference8Ideal.Value.run m' g'
    rw [Cert.Kernel8Ideal.MixerInput.final]
    funext i
    pointwise [Cert.Kernel8Ideal.MixerInput.grad, Cert.Kernel8Ideal.MixerInput.part]
    exact reversed _ _ _ _ _ _ _ _

theorem mixer_frame : Cert.quiescent_Kernel8 := fun m ρ _ => Cert.Kernel8.Gen.frame m ρ
theorem mixer_frame_ideal : Cert.quiescent_Kernel8Ideal := fun m ρ _ => Cert.Kernel8Ideal.Gen.frame m ρ
theorem mixer_frame_reference : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

end Cert.Proof

end
-- ==== Proof.ProjectQkv.lean ====
/-
  The product giving queries, keys and values: row blocks by column blocks of the weight.
-/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.ProjectQkv

open Cert.Kernel9Ideal Cert.Kernel9Ideal.Gen

/-- `h · w`. -/
def out (h : FVec Ideal S8192x1024 .bf16) (w : FVec Ideal S1024x1536 .bf16) : FVec Ideal S8192x1536 .bf16 :=
  fun i => ∑ l : Fin 1024, h (ix2 (i 0) l) * w (ix2 l (i 1))

variable (m : (ℓ : Loc nD τ sig) → Buf (Elt Ideal) ℓ)

/-- Every window's block at a point: sixteen row blocks, two column blocks each. -/
theorem idx_val : ∀ t : Fin cfg0.N, win0_0.index t = ![t.val / 2, 0] ∧ win0_1.index t = ![0, t.val % 2]
    ∧ win0_2.index t = ![t.val / 2, t.val % 2] :=
  (by decide +kernel : ∀ t : Fin grid0.N, _)

/-- What a point stores at `y` is the product where `y` lies in the array. -/
theorem point (c : Dev nD) (t : Fin cfg0.N) (y) :
    k0_pay1 (iblk m c 1 t) (iblk m c 0 t) y = out (m ((c : Thread nD τ).loc main_arg0)) (m ((c : Thread nD τ).loc main_arg1)) (((cfg0.win 2).blk t).view.emb y) := by
  pointwise [k0_pay1, out]
  blk_point [iblk, V, idx_val t]

/-- The product fills the result. -/
theorem final (c : Dev nD) : (dats m 0 c).arrAt 2 (cfgs 0).N = out (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel9Ideal.ProjectQkv

namespace Cert.Proof

theorem qkv_algebraic : Cert.algebraic_Kernel9Ideal_Reference9Ideal := by
  pair_intro
  · run_from Cert.Kernel9Ideal.Gen.run_main m g
  · run_from Cert.Reference9Ideal.Value.run m' g'
    rw [Cert.Kernel9Ideal.ProjectQkv.final]
    funext i
    pointwise! [Cert.Kernel9Ideal.ProjectQkv.out]

theorem qkv_frame : Cert.quiescent_Kernel9 := fun m ρ _ => Cert.Kernel9.Gen.frame m ρ
theorem qkv_frame_ideal : Cert.quiescent_Kernel9Ideal := fun m ρ _ => Cert.Kernel9Ideal.Gen.frame m ρ
theorem qkv_frame_reference : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

end Cert.Proof

end
-- ==== Proof.ProjectRest.lean ====
/-
  The product giving the recurrences' inputs: row blocks by column blocks of the weight.
-/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.ProjectRest

open Cert.Kernel10Ideal Cert.Kernel10Ideal.Gen

/-- `h · w`. -/
def out (h : FVec Ideal S8192x1024 .bf16) (w : FVec Ideal S1024x2688 .bf16) : FVec Ideal S8192x2688 .f32 :=
  fun i => ∑ l : Fin 1024, h (ix2 (i 0) l) * w (ix2 l (i 1))

variable (m : (ℓ : Loc nD τ sig) → Buf (Elt Ideal) ℓ)

/-- Every window's block at a point: sixteen row blocks, three column blocks each. -/
theorem idx_val : ∀ t : Fin cfg0.N, win0_0.index t = ![t.val / 3, 0] ∧ win0_1.index t = ![0, t.val % 3]
    ∧ win0_2.index t = ![t.val / 3, t.val % 3] :=
  (by decide +kernel : ∀ t : Fin grid0.N, _)

/-- What a point stores at `y` is the product where `y` lies in the array. -/
theorem point (c : Dev nD) (t : Fin cfg0.N) (y) :
    k0_pay1 (iblk m c 1 t) (iblk m c 0 t) y = out (m ((c : Thread nD τ).loc main_arg0)) (m ((c : Thread nD τ).loc main_arg1)) (((cfg0.win 2).blk t).view.emb y) := by
  pointwise [k0_pay1, out]
  blk_point [iblk, V, idx_val t]

/-- The product fills the result. -/
theorem final (c : Dev nD) : (dats m 0 c).arrAt 2 (cfgs 0).N = out (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel10Ideal.ProjectRest

namespace Cert.Proof

theorem rest_algebraic : Cert.algebraic_Kernel10Ideal_Reference10Ideal := by
  pair_intro
  · run_from Cert.Kernel10Ideal.Gen.run_main m g
  · run_from Cert.Reference10Ideal.Value.run m' g'
    rw [Cert.Kernel10Ideal.ProjectRest.final]
    funext i
    pointwise! [Cert.Kernel10Ideal.ProjectRest.out]

theorem rest_frame : Cert.quiescent_Kernel10 := fun m ρ _ => Cert.Kernel10.Gen.frame m ρ
theorem rest_frame_ideal : Cert.quiescent_Kernel10Ideal := fun m ρ _ => Cert.Kernel10Ideal.Gen.frame m ρ
theorem rest_frame_reference : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

end Cert.Proof

end
-- ==== Proof.AttentionCotangent.lean ====
/-
  The gradient of the attention's output: row blocks by the transposed first rows of the output weight.
-/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel11Ideal.AttentionCotangent

open Cert.Kernel11Ideal Cert.Kernel11Ideal.Gen

/-- `dx · wᵀ` over the weight's rows from 0 on. -/
def grad (dx : FVec Ideal S8192x1024 .f32) (w : FVec Ideal S1536x1024 .bf16) : FVec Ideal S8192x512 .bf16 :=
  fun i => ∑ l : Fin 1024, dx (ix2 (i 0) l) * w (ix2 ⟨0 + (i 1 : ℕ), by have := (i 1).isLt; change _ < 512 at this; omega⟩ l)

variable (m : (ℓ : Loc nD τ sig) → Buf (Elt Ideal) ℓ)

/-- Every window's block at a point: sixteen row blocks, one column block. -/
theorem idx_val : ∀ t : Fin cfg0.N, win0_0.index t = ![t.val / 1, 0] ∧ win0_1.index t = ![0, t.val % 1]
    ∧ win0_2.index t = ![t.val / 1, t.val % 1] :=
  (by decide +kernel : ∀ t : Fin grid0.N, _)

/-- What a point stores at `y` is the gradient where `y` lies in the array. -/
theorem point (c : Dev nD) (t : Fin cfg0.N) (y) :
    k0_pay1 (iblk m c 1 t) (iblk m c 0 t) y = grad (m ((c : Thread nD τ).loc main_arg0)) (m ((c : Thread nD τ).loc main_arg1)) (((cfg0.win 2).blk t).view.emb y) := by
  pointwise [k0_pay1, grad]
  show (_ : EReal) = _
  refine Finset.sum_congr rfl fun l _ => congrArg₂ (· * ·) ?_ ?_
  all_goals
    blk_simp [iblk, idx_val t]
    entry_read
    pointwise
    blk_ext [idx_val t]

/-- The gradient fills the result. -/
theorem final (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel11Ideal.AttentionCotangent

namespace Cert.Proof

theorem cotangent_algebraic : Cert.algebraic_Kernel11Ideal_Reference11Ideal := by
  pair_intro
  · run_from Cert.Kernel11Ideal.Gen.run_main m g
  · run_from Cert.Reference11Ideal.Value.run m' g'
    rw [Cert.Kernel11Ideal.AttentionCotangent.final]
    funext i
    pointwise! [Cert.Kernel11Ideal.AttentionCotangent.grad]

theorem cotangent_frame : Cert.quiescent_Kernel11 := fun m ρ _ => Cert.Kernel11.Gen.frame m ρ
theorem cotangent_frame_ideal : Cert.quiescent_Kernel11Ideal := fun m ρ _ => Cert.Kernel11Ideal.Gen.frame m ρ
theorem cotangent_frame_reference : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

end Cert.Proof

end
-- ==== Proof.MixCotangent.lean ====
/-
  The gradient of the recurrences' outputs: row blocks by column blocks of the transposed last rows of the output weight.
-/
module

public import proofs.«01_k».proof.Defs
public import proofs.«01_k».proof.Proof.Gen.Kernel12.Frame
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel12Ideal.MixCotangent

open Cert.Kernel12Ideal Cert.Kernel12Ideal.Gen

/-- `dx · wᵀ` over the weight's rows from 512 on. -/
def grad (dx : FVec Ideal S8192x1024 .f32) (w : FVec Ideal S1536x1024 .bf16) : FVec Ideal S8192x1024 .f32 :=
  fun i => ∑ l : Fin 1024, dx (ix2 (i 0) l) * w (ix2 ⟨512 + (i 1 : ℕ), by have := (i 1).isLt; change _ < 1024 at this; omega⟩ l)

variable (m : (ℓ : Loc nD τ sig) → Buf (Elt Ideal) ℓ)

/-- Every window's block at a point: sixteen row blocks, two column blocks each. -/
theorem idx_val : ∀ t : Fin cfg0.N, win0_0.index t = ![t.val / 2, 0] ∧ win0_1.index t = ![0, t.val % 2]
    ∧ win0_2.index t = ![t.val / 2, t.val % 2] :=
  (by decide +kernel : ∀ t : Fin grid0.N, _)

/-- A column of the transposed weight's last 1024 columns is a row of the weight. -/
theorem columns (w : FVec Ideal S1536x1024 .bf16) (l j : Fin 1024) :
    extractStridedSlice S1024x1024 ![0, 512] (transpose S1024x1536 [1, 0] w transposes_S1536x1024_S1024x1536_1_0)
      slices_S1024x1536_S1024x1024_0_512 (ix2 l j) = w (ix2 ⟨512 + j.val, by omega⟩ l) := by
  pointwise

/-- What a point stores at `y` is the gradient where `y` lies in the array. -/
theorem point (c : Dev nD) (t : Fin cfg0.N) (y) :
    k0_pay1 (iblk m c 1 t) (iblk m c 0 t) y = grad (m ((c : Thread nD τ).loc main_arg0)) (m ((c : Thread nD τ).loc main_arg1)) (((cfg0.win 2).blk t).view.emb y) := by
  pointwise [k0_pay1, grad]
  show (_ : EReal) = _
  refine Finset.sum_congr rfl fun l _ => congrArg₂ (· * ·) ?_ ?_
  · blk_simp [iblk, idx_val t]
    entry_read
    blk_ext [idx_val t]
  · blk_simp [iblk, idx_val t]
    entry_read
    have hy := (y 1).isLt
    have e : ((View.whole main_v1).slice (win0_1.rect t)).emb (ix2 l (y 1))
        = ix2 l ⟨t.val % 2 * 512 + (y 1 : ℕ), by change (y 1 : ℕ) < 512 at hy; omega⟩ := by
      blk_ext [idx_val t]
    rw [e]
    exact columns _ l _

/-- The gradient fills the result. -/
theorem final (c : Dev nD) : (dats m 0 c).arrAt 2 (cfgs 0).N = grad (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel12Ideal.MixCotangent

namespace Cert.Proof

theorem mix_algebraic : Cert.algebraic_Kernel12Ideal_Reference12Ideal := by
  pair_intro
  · run_from Cert.Kernel12Ideal.Gen.run_main m g
  · run_from Cert.Reference12Ideal.Value.run m' g'
    rw [Cert.Kernel12Ideal.MixCotangent.final]
    funext i
    pointwise! [Cert.Kernel12Ideal.MixCotangent.grad]

theorem mix_frame : Cert.quiescent_Kernel12 := fun m ρ _ => Cert.Kernel12.Gen.frame m ρ
theorem mix_frame_ideal : Cert.quiescent_Kernel12Ideal := fun m ρ _ => Cert.Kernel12Ideal.Gen.frame m ρ
theorem mix_frame_reference : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

end Cert.Proof

end
-- ==== Proof.ProjectOut.lean ====
/-
  The mixer's output product: the kernel adds three products of row blocks with the weight's row blocks and the residual.
-/
module

public import proofs.«01_k».proof.Defs
public import proofs.«01_k».proof.Proof.Gen.Kernel13.Frame
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel13Ideal.ProjectOut

open Cert.Kernel13Ideal Cert.Kernel13Ideal.Gen

/-- A product with 512 of the weight's rows. -/
def part (off : ℕ) (h : off + 512 ≤ 1536) (a : FVec Ideal S8192x512 .f32) (w : FVec Ideal S1536x1024 .bf16) (i : S8192x1024.Idx) : EReal :=
  ∑ l : Fin 512, a (ix2 (i 0) l) * w (ix2 ⟨off + l.val, by omega⟩ (i 1))

/-- The residual plus the three products. -/
def out (a b d : FVec Ideal S8192x512 .f32) (w : FVec Ideal S1536x1024 .bf16) (x : FVec Ideal S8192x1024 .f32) : FVec Ideal S8192x1024 .f32 :=
  fun i => part 0 (by decide) a w i + part 512 (by decide) b w i + part 1024 (by decide) d w i + x i

variable (m : (ℓ : Loc nD τ sig) → Buf (Elt Ideal) ℓ)

/-- Every window's block at a point: sixteen row blocks, two column blocks each. -/
theorem idx_val : ∀ t : Fin cfg0.N, win0_0.index t = ![t.val / 2, 0] ∧ win0_1.index t = ![t.val / 2, 0]
    ∧ win0_2.index t = ![t.val / 2, 0] ∧ win0_3.index t = ![0, t.val % 2] ∧ win0_4.index t = ![t.val / 2, t.val % 2]
    ∧ win0_5.index t = ![t.val / 2, t.val % 2] :=
  (by decide +kernel : ∀ t : Fin grid0.N, _)

/-- The three products fill the result. -/
theorem final (c : Dev nD) : (dats m 0 c).arrAt 5 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  pointwise [k0_pay1, out, part]
  blk_point [iblk, V, idx_val t]

end Cert.Kernel13Ideal.ProjectOut

namespace Cert.Proof

theorem project_algebraic : Cert.algebraic_Kernel13Ideal_Reference13Ideal := by
  pair_intro
  · run_from Cert.Kernel13Ideal.Gen.run_main m g
  · run_from Cert.Reference13Ideal.Value.run m' g'
    rw [Cert.Kernel13Ideal.ProjectOut.final]
    funext i
    pointwise [Cert.Kernel13Ideal.ProjectOut.out, Cert.Kernel13Ideal.ProjectOut.part]
    exact add_comm _ _

theorem project_frame : Cert.quiescent_Kernel13 := fun m ρ _ => Cert.Kernel13.Gen.frame m ρ
theorem project_frame_ideal : Cert.quiescent_Kernel13Ideal := fun m ρ _ => Cert.Kernel13Ideal.Gen.frame m ρ
theorem project_frame_reference : Cert.quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run (F := Ideal) m ρ)

end Cert.Proof

end
-- ==== Proof.OutWeight.lean ====
/-
  The gradient of a third of the mixer's output weight: eight blocks of rows are added into the result.
-/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel14Ideal.OutWeight

open Cert.Kernel14Ideal Cert.Kernel14Ideal.Gen

/-- The weight's gradient: `aᵀ · dx`. -/
def grad (a : FVec Ideal S8192x512 .f32) (dx : FVec Ideal S8192x1024 .f32) : FVec Ideal S512x1024 .f32 :=
  fun i => ∑ l : Fin 8192, a (ix2 l (i 0)) * dx (ix2 l (i 1))

theorem grad_apply (a : FVec Ideal S8192x512 .f32) (dx : FVec Ideal S8192x1024 .f32) (i) :
    grad a dx i = ∑ l : Fin 8192, a (ix2 l (i 0)) * dx (ix2 l (i 1)) := rfl

variable (m : (ℓ : Loc nD τ sig) → Buf (Elt Ideal) ℓ)

/-- A run's first point clears the block, -/
theorem zeros (j) : k0_pay1 (F := Ideal) j = 0 := by pointwise [k0_pay1]

/-- and every point adds the product of its two row blocks. -/
theorem adds (acc : FVec Ideal S512x1024 .f32) (a : FVec Ideal S1024x512 .f32) (d : FVec Ideal S1024x1024 .f32) (j) :
    k0_pay2 acc a d j = acc j + ∑ k : Fin 1024, a (ix2 k (j 0)) * d (ix2 k (j 1)) := by
  pointwise [k0_pay2]

/-- Every window's block at a point: one row block of each argument, the result whole. -/
theorem idx : ∀ t : Fin cfg0.N, win0_0.index t = ![t.val % 8, 0] ∧ win0_1.index t = ![t.val % 8, 0]
    ∧ win0_2.index t = ![0, 0] :=
  (by decide +kernel : ∀ t : Fin grid0.N, _)

/-- The weight's gradient fills the result. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [adds, zeros])
    (fun t h j => by rw [outsAt0_B m c t h]; frame_out; rw [adds])
    t ((flush0_2 t).mp hf) _, zero_add, grad_apply]
  refine Fin.sum_mul_add_congr fun s k hl => ?_
  blk_point [iblk, V, idx t, idx ⟨_, Pipeline.run_point_lt_of_flush t ((flush0_2 t).mp hf) s⟩]

end Cert.Kernel14Ideal.OutWeight

namespace Cert.Proof

theorem out_weight_algebraic : Cert.algebraic_Kernel14Ideal_Reference14Ideal := by
  pair_intro
  · run_from Cert.Kernel14Ideal.Gen.run_main m g
  · run_from Cert.Reference14Ideal.Value.run m' g'
    rw [Cert.Kernel14Ideal.OutWeight.final]
    funext i
    pointwise [Cert.Kernel14Ideal.OutWeight.grad]
    exact Finset.sum_congr rfl fun _ _ => mul_comm _ _

theorem out_weight_frame : Cert.quiescent_Kernel14 := fun m ρ _ => Cert.Kernel14.Gen.frame m ρ
theorem out_weight_frame_ideal : Cert.quiescent_Kernel14Ideal := fun m ρ _ => Cert.Kernel14Ideal.Gen.frame m ρ
theorem out_weight_frame_reference : Cert.quiescent_Reference14Ideal := fun m ρ _ =>
  (θ_run Cert.Reference14Ideal.defs _ _).mono (fun r h => ⟨fun c => (h c).2,
      Idealize.ShloMosaic.sem_eq_zero_of_no_sems (by decide) r.2⟩)
    (Cert.Reference14Ideal.Value.run (F := Ideal) m ρ)

end Cert.Proof

end
-- ==== Proof.QkvWeight.lean ====
/-
  The gradient of the input weight's columns for queries, for keys or for values: eight blocks of rows are added into the result.
-/
module

public import proofs.«01_k».proof.Defs
public import proofs.«01_k».proof.Proof.Gen.Kernel16.Frame
public import proofs.«01_k».proof.Proof.Gen.Kernel16Ideal.Value
public import proofs.«01_k».proof.Proof.Gen.Reference16Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel16Ideal.QkvWeight

open Cert.Kernel16Ideal Cert.Kernel16Ideal.Gen

/-- The weight's gradient: `hᵀ · dy`. -/
def grad (h : FVec Ideal S8192x1024 .bf16) (dy : FVec Ideal S8192x512 .bf16) : FVec Ideal S1024x512 .f32 :=
  fun i => ∑ l : Fin 8192, h (ix2 l (i 0)) * dy (ix2 l (i 1))

theorem grad_apply (h : FVec Ideal S8192x1024 .bf16) (dy : FVec Ideal S8192x512 .bf16) (i) :
    grad h dy i = ∑ l : Fin 8192, h (ix2 l (i 0)) * dy (ix2 l (i 1)) := rfl

variable (m : (ℓ : Loc nD τ sig) → Buf (Elt Ideal) ℓ)

/-- A run's first point clears the block, -/
theorem zeros (j) : k0_pay1 (F := Ideal) j = 0 := by pointwise [k0_pay1]

/-- and every point adds the product of its two row blocks. -/
theorem adds (acc : FVec Ideal S1024x512 .f32) (a : FVec Ideal S1024x1024 .bf16) (d : FVec Ideal S1024x512 .bf16) (j) :
    k0_pay2 acc a d j = acc j + ∑ k : Fin 1024, a (ix2 k (j 0)) * d (ix2 k (j 1)) := by
  pointwise [k0_pay2]

/-- Every window's block at a point: one row block of each argument, the result whole. -/
theorem idx : ∀ t : Fin cfg0.N, win0_0.index t = ![t.val % 8, 0] ∧ win0_1.index t = ![t.val % 8, 0]
    ∧ win0_2.index t = ![0, 0] :=
  (by decide +kernel : ∀ t : Fin grid0.N, _)

/-- The weight's gradient fills the result. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [adds, zeros])
    (fun t h j => by rw [outsAt0_B m c t h]; frame_out; rw [adds])
    t ((flush0_2 t).mp hf) _, zero_add, grad_apply]
  refine Fin.sum_mul_add_congr fun s k hl => ?_
  blk_point [iblk, V, idx t, idx ⟨_, Pipeline.run_point_lt_of_flush t ((flush0_2 t).mp hf) s⟩]

end Cert.Kernel16Ideal.QkvWeight

namespace Cert.Proof

theorem qkv_weight_algebraic : Cert.algebraic_Kernel16Ideal_Reference16Ideal := by
  pair_intro
  · run_from Cert.Kernel16Ideal.Gen.run_main m g
  · run_from Cert.Reference16Ideal.Value.run m' g'
    rw [Cert.Kernel16Ideal.QkvWeight.final]
    funext i
    pointwise [Cert.Kernel16Ideal.QkvWeight.grad]
    exact Finset.sum_congr rfl fun _ _ => mul_comm _ _

theorem qkv_weight_frame : Cert.quiescent_Kernel16 := fun m ρ _ => Cert.Kernel16.Gen.frame m ρ
theorem qkv_weight_frame_ideal : Cert.quiescent_Kernel16Ideal := fun m ρ _ => Cert.Kernel16Ideal.Gen.frame m ρ
theorem qkv_weight_frame_reference : Cert.quiescent_Reference16Ideal := fun m ρ _ =>
  (θ_run Cert.Reference16Ideal.defs _ _).mono (fun r h => ⟨fun c => (h c).2,
      Idealize.ShloMosaic.sem_eq_zero_of_no_sems (by decide) r.2⟩)
    (Cert.Reference16Ideal.Value.run (F := Ideal) m ρ)

end Cert.Proof

end
-- ==== Proof.NarrowWeight.lean ====
/-
  The gradient of the input weight's columns for a gate or for the recurrence's input: eight blocks of rows are added into the result.
-/
module

public import proofs.«01_k».proof.Defs
public import proofs.«01_k».proof.Proof.Gen.Kernel17.Frame
public import proofs.«01_k».proof.Proof.Gen.Kernel17Ideal.Value
public import proofs.«01_k».proof.Proof.Gen.Reference17Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel17Ideal.NarrowWeight

open Cert.Kernel17Ideal Cert.Kernel17Ideal.Gen

/-- The weight's gradient: `hᵀ · dy`. -/
def grad (h : FVec Ideal S8192x1024 .bf16) (dy : FVec Ideal S8192x512 .f32) : FVec Ideal S1024x512 .f32 :=
  fun i => ∑ l : Fin 8192, h (ix2 l (i 0)) * dy (ix2 l (i 1))

theorem grad_apply (h : FVec Ideal S8192x1024 .bf16) (dy : FVec Ideal S8192x512 .f32) (i) :
    grad h dy i = ∑ l : Fin 8192, h (ix2 l (i 0)) * dy (ix2 l (i 1)) := rfl

variable (m : (ℓ : Loc nD τ sig) → Buf (Elt Ideal) ℓ)

/-- A run's first point clears the block, -/
theorem zeros (j) : k0_pay1 (F := Ideal) j = 0 := by pointwise [k0_pay1]

/-- and every point adds the product of its two row blocks. -/
theorem adds (acc : FVec Ideal S1024x512 .f32) (a : FVec Ideal S1024x1024 .bf16) (d : FVec Ideal S1024x512 .f32) (j) :
    k0_pay2 acc a d j = acc j + ∑ k : Fin 1024, a (ix2 k (j 0)) * d (ix2 k (j 1)) := by
  pointwise [k0_pay2]

/-- Every window's block at a point: one row block of each argument, the result whole. -/
theorem idx : ∀ t : Fin cfg0.N, win0_0.index t = ![t.val % 8, 0] ∧ win0_1.index t = ![t.val % 8, 0]
    ∧ win0_2.index t = ![0, 0] :=
  (by decide +kernel : ∀ t : Fin grid0.N, _)

/-- The weight's gradient fills the result. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [adds, zeros])
    (fun t h j => by rw [outsAt0_B m c t h]; frame_out; rw [adds])
    t ((flush0_2 t).mp hf) _, zero_add, grad_apply]
  refine Fin.sum_mul_add_congr fun s k hl => ?_
  blk_point [iblk, V, idx t, idx ⟨_, Pipeline.run_point_lt_of_flush t ((flush0_2 t).mp hf) s⟩]

end Cert.Kernel17Ideal.NarrowWeight

namespace Cert.Proof

theorem narrow_weight_algebraic : Cert.algebraic_Kernel17Ideal_Reference17Ideal := by
  pair_intro
  · run_from Cert.Kernel17Ideal.Gen.run_main m g
  · run_from Cert.Reference17Ideal.Value.run m' g'
    rw [Cert.Kernel17Ideal.NarrowWeight.final]
    funext i
    pointwise [Cert.Kernel17Ideal.NarrowWeight.grad]
    exact Finset.sum_congr rfl fun _ _ => mul_comm _ _

theorem narrow_weight_frame : Cert.quiescent_Kernel17 := fun m ρ _ => Cert.Kernel17.Gen.frame m ρ
theorem narrow_weight_frame_ideal : Cert.quiescent_Kernel17Ideal := fun m ρ _ => Cert.Kernel17Ideal.Gen.frame m ρ
theorem narrow_weight_frame_reference : Cert.quiescent_Reference17Ideal := fun m ρ _ =>
  (θ_run Cert.Reference17Ideal.defs _ _).mono (fun r h => ⟨fun c => (h c).2,
      Idealize.ShloMosaic.sem_eq_zero_of_no_sems (by decide) r.2⟩)
    (Cert.Reference17Ideal.Value.run (F := Ideal) m ρ)

end Cert.Proof

end
-- ==== Proof.WideWeight.lean ====
/-
  The gradient of the input weight's columns for the scan's input: eight blocks of rows are added into the result.
-/
module

public import proofs.«01_k».proof.Defs
public import proofs.«01_k».proof.Proof.Gen.Kernel18.Frame
public import proofs.«01_k».proof.Proof.Gen.Kernel18Ideal.Value
public import proofs.«01_k».proof.Proof.Gen.Reference18Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel18Ideal.WideWeight

open Cert.Kernel18Ideal Cert.Kernel18Ideal.Gen

/-- The weight's gradient: `hᵀ · dy`. -/
def grad (h : FVec Ideal S8192x1024 .bf16) (dy : FVec Ideal S8192x1024 .f32) : FVec Ideal S1024x1024 .f32 :=
  fun i => ∑ l : Fin 8192, h (ix2 l (i 0)) * dy (ix2 l (i 1))

theorem grad_apply (h : FVec Ideal S8192x1024 .bf16) (dy : FVec Ideal S8192x1024 .f32) (i) :
    grad h dy i = ∑ l : Fin 8192, h (ix2 l (i 0)) * dy (ix2 l (i 1)) := rfl

variable (m : (ℓ : Loc nD τ sig) → Buf (Elt Ideal) ℓ)

/-- A run's first point clears the block, -/
theorem zeros (j) : k0_pay1 (F := Ideal) j = 0 := by pointwise [k0_pay1]

/-- and every point adds the product of its two row blocks. -/
theorem adds (acc : FVec Ideal S1024x1024 .f32) (a : FVec Ideal S1024x1024 .bf16) (d : FVec Ideal S1024x1024 .f32) (j) :
    k0_pay2 acc a d j = acc j + ∑ k : Fin 1024, a (ix2 k (j 0)) * d (ix2 k (j 1)) := by
  pointwise [k0_pay2]

/-- Every window's block at a point: one row block of each argument, the result whole. -/
theorem idx : ∀ t : Fin cfg0.N, win0_0.index t = ![t.val % 8, 0] ∧ win0_1.index t = ![t.val % 8, 0]
    ∧ win0_2.index t = ![0, 0] :=
  (by decide +kernel : ∀ t : Fin grid0.N, _)

/-- The weight's gradient fills the result. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [adds, zeros])
    (fun t h j => by rw [outsAt0_B m c t h]; frame_out; rw [adds])
    t ((flush0_2 t).mp hf) _, zero_add, grad_apply]
  refine Fin.sum_mul_add_congr fun s k hl => ?_
  blk_point [iblk, V, idx t, idx ⟨_, Pipeline.run_point_lt_of_flush t ((flush0_2 t).mp hf) s⟩]

end Cert.Kernel18Ideal.WideWeight

namespace Cert.Proof

theorem wide_weight_algebraic : Cert.algebraic_Kernel18Ideal_Reference18Ideal := by
  pair_intro
  · run_from Cert.Kernel18Ideal.Gen.run_main m g
  · run_from Cert.Reference18Ideal.Value.run m' g'
    rw [Cert.Kernel18Ideal.WideWeight.final]
    funext i
    pointwise [Cert.Kernel18Ideal.WideWeight.grad]
    exact Finset.sum_congr rfl fun _ _ => mul_comm _ _

theorem wide_weight_frame : Cert.quiescent_Kernel18 := fun m ρ _ => Cert.Kernel18.Gen.frame m ρ
theorem wide_weight_frame_ideal : Cert.quiescent_Kernel18Ideal := fun m ρ _ => Cert.Kernel18Ideal.Gen.frame m ρ
theorem wide_weight_frame_reference : Cert.quiescent_Reference18Ideal := fun m ρ _ =>
  (θ_run Cert.Reference18Ideal.defs _ _).mono (fun r h => ⟨fun c => (h c).2,
      Idealize.ShloMosaic.sem_eq_zero_of_no_sems (by decide) r.2⟩)
    (Cert.Reference18Ideal.Value.run (F := Ideal) m ρ)

end Cert.Proof

end
-- ==== Proof.StepWeight.lean ====
/-
  The gradient of the input weight's columns for the scan's step sizes: eight blocks of rows are added into the result.
-/
module

public import proofs.«01_k».proof.Defs
public import proofs.«01_k».proof.Proof.Gen.Kernel19.Frame
public import proofs.«01_k».proof.Proof.Gen.Kernel19Ideal.Value
public import proofs.«01_k».proof.Proof.Gen.Reference19Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel19Ideal.StepWeight

open Cert.Kernel19Ideal Cert.Kernel19Ideal.Gen

/-- The weight's gradient: `hᵀ · dy`. -/
def grad (h : FVec Ideal S8192x1024 .bf16) (dy : FVec Ideal S8192x128 .f32) : FVec Ideal S1024x128 .f32 :=
  fun i => ∑ l : Fin 8192, h (ix2 l (i 0)) * dy (ix2 l (i 1))

theorem grad_apply (h : FVec Ideal S8192x1024 .bf16) (dy : FVec Ideal S8192x128 .f32) (i) :
    grad h dy i = ∑ l : Fin 8192, h (ix2 l (i 0)) * dy (ix2 l (i 1)) := rfl

variable (m : (ℓ : Loc nD τ sig) → Buf (Elt Ideal) ℓ)

/-- A run's first point clears the block, -/
theorem zeros (j) : k0_pay1 (F := Ideal) j = 0 := by pointwise [k0_pay1]

/-- and every point adds the product of its two row blocks. -/
theorem adds (acc : FVec Ideal S1024x128 .f32) (a : FVec Ideal S1024x1024 .bf16) (d : FVec Ideal S1024x128 .f32) (j) :
    k0_pay2 acc a d j = acc j + ∑ k : Fin 1024, a (ix2 k (j 0)) * d (ix2 k (j 1)) := by
  pointwise [k0_pay2]

/-- Every window's block at a point: one row block of each argument, the result whole. -/
theorem idx : ∀ t : Fin cfg0.N, win0_0.index t = ![t.val % 8, 0] ∧ win0_1.index t = ![t.val % 8, 0]
    ∧ win0_2.index t = ![0, 0] :=
  (by decide +kernel : ∀ t : Fin grid0.N, _)

/-- The weight's gradient fills the result. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [adds, zeros])
    (fun t h j => by rw [outsAt0_B m c t h]; frame_out; rw [adds])
    t ((flush0_2 t).mp hf) _, zero_add, grad_apply]
  refine Fin.sum_mul_add_congr fun s k hl => ?_
  blk_point [iblk, V, idx t, idx ⟨_, Pipeline.run_point_lt_of_flush t ((flush0_2 t).mp hf) s⟩]

end Cert.Kernel19Ideal.StepWeight

namespace Cert.Proof

theorem step_weight_algebraic : Cert.algebraic_Kernel19Ideal_Reference19Ideal := by
  pair_intro
  · run_from Cert.Kernel19Ideal.Gen.run_main m g
  · run_from Cert.Reference19Ideal.Value.run m' g'
    rw [Cert.Kernel19Ideal.StepWeight.final]
    funext i
    pointwise [Cert.Kernel19Ideal.StepWeight.grad]
    exact Finset.sum_congr rfl fun _ _ => mul_comm _ _

theorem step_weight_frame : Cert.quiescent_Kernel19 := fun m ρ _ => Cert.Kernel19.Gen.frame m ρ
theorem step_weight_frame_ideal : Cert.quiescent_Kernel19Ideal := fun m ρ _ => Cert.Kernel19Ideal.Gen.frame m ρ
theorem step_weight_frame_reference : Cert.quiescent_Reference19Ideal := fun m ρ _ =>
  (θ_run Cert.Reference19Ideal.defs _ _).mono (fun r h => ⟨fun c => (h c).2,
      Idealize.ShloMosaic.sem_eq_zero_of_no_sems (by decide) r.2⟩)
    (Cert.Reference19Ideal.Value.run (F := Ideal) m ρ)

end Cert.Proof

end
-- ==== Proof.Adam.lean ====
/-
  One entry of an AdamW step: both moments and the weight's change, from the weight, the moments before and the gradient.
-/
module

public import Idealize.ShloMosaic.Lib.Pointwise

@[expose] public section

noncomputable section

namespace Cert.Adam

open Idealize.ShloMosaic

/-- The first moment, `0.9 m + 0.1 g`, -/
def first (m g : EReal) : EReal :=
  (FloatOps.ofBits .f32 0x3F666666#32 : Ideal .f32) * m + (FloatOps.ofBits .f32 0x3DCCCCCD#32 : Ideal .f32) * g

/-- the second, `0.999 v + 0.001 g²`, -/
def second (v g : EReal) : EReal :=
  (FloatOps.ofBits .f32 0x3F7FBE77#32 : Ideal .f32) * v + (FloatOps.ofBits .f32 0x3A83126F#32 : Ideal .f32) * (g * g)

/-- and the change: minus the rate times the corrected first moment over the root of the corrected second, plus the decay. -/
def change (w m v g : EReal) : EReal :=
  (FloatOps.ofBits .f32 0xBA83126F#32 : Ideal .f32)
    * (Ideal.div (Ideal.div (first m g) (FloatOps.ofBits .f32 0x3F26BD02#32 : Ideal .f32))
        (Ideal.sqrt (Ideal.div (second v g) (FloatOps.ofBits .f32 0x3C231ACC#32 : Ideal .f32))
          + (FloatOps.ofBits .f32 0x322BCC77#32 : Ideal .f32))
      + (FloatOps.ofBits .f32 0x3C23D70A#32 : Ideal .f32) * w)

end Cert.Adam

end
-- ==== Proof.StepOut.lean ====
/-
  The step of the output projection's weight: its gradient is the sum of eight parts, and the rest is entry by entry.
-/
module

public import proofs.«01_k».proof.Defs
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit
public import Idealize.ShloMosaic.Lib.Pointwise
public import Idealize.ShloMosaic.Lib.Claim
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel20Ideal.StepOut

open Cert.Kernel20Ideal Cert.Kernel20Ideal.Gen

/-- The gradient: the eight parts added. -/
def grad (p : FVec Ideal S8x384x1024 .bf16) : FVec Ideal S384x1024 .f32 := fun i => ∑ s : Fin 8, p (ix3 s (i 0) (i 1))

/-- A block of the eight parts added, -/
def blocks (x : FVec Ideal S8x128x1024 .bf16) : FVec Ideal S128x1024 .f32 := fun j => ∑ s : Fin 8, x (ix3 s (j 0) (j 1))

/-- as the body adds it, from the left. -/
theorem total (x0 x1 x2 : FVec Ideal S128x1024 .f32) (x3 : FVec Ideal S8x128x1024 .bf16) (j) :
    k0_pay5 (F := Ideal) x0 x1 x2 x3 j = blocks x3 j := by
  pointwise [k0_pay5, k0_pay4, blocks]
  exact (Fin.sum_univ_eight (M := EReal) fun s => x3 (ix3 s (j 0) (j 1))).symm

/-- What it writes, entry by entry. -/
theorem moment1 (g v) (j) : k0_pay1 (F := Ideal) g v j = Adam.first (v j) (g j) := by pointwise [k0_pay1, Adam.first]
theorem moment2 (g v) (j) : k0_pay2 (F := Ideal) g v j = Adam.second (v j) (g j) := by pointwise [k0_pay2, Adam.second]
theorem delta (g w a v) (j) : k0_pay3 (F := Ideal) g w a v j = Adam.change (w j) (a j) (v j) (g j) := by
  pointwise [k0_pay3, k0_pay1, k0_pay2, Adam.first, Adam.second, Adam.change]

variable (m : (ℓ : Loc nD τ sig) → Buf (Elt Ideal) ℓ)

/-- Every window moves with the point, a block of rows at a time. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- A point's sum of blocks is the gradient at the block's rows. -/
theorem part (c : Dev nD) (t : Fin cfg0.N) (y : S128x1024.Idx) :
    blocks (iblk m c 3 t) y = grad (m ((c : Thread nD τ).loc main_arg3)) (((cfg0.win 4).blk t).view.emb y) := by
  refine Finset.sum_congr rfl fun s _ => ?_
  blk_point [iblk, V, idx t]

/-- The four results, each over its whole array. -/
theorem final4 (c : Dev nD) : (dats m 0 c).arrAt 4 (cfgs 0).N = grad (m ((c : Thread nD τ).loc main_arg3)) := by
  refine (dats m 0 c).arrAt_eq_of_covers 4 _ (by decide +kernel) fun t _ y => ?_
  blk_simp
  rw [after0_4]
  frame_out
  rw [total]
  exact part m c t _

theorem final5 (c : Dev nD) : (dats m 0 c).arrAt 5 (cfgs 0).N
    = fun i => Adam.change (m ((c : Thread nD τ).loc main_arg0) i) (m ((c : Thread nD τ).loc main_arg1) i)
        (m ((c : Thread nD τ).loc main_arg2) i) (grad (m ((c : Thread nD τ).loc main_arg3)) i) := by
  refine (dats m 0 c).arrAt_eq_of_covers 5 _ (by decide +kernel) fun t _ y => ?_
  blk_simp
  rw [after0_5]
  frame_out
  rw [delta, total, part m c t]
  congr 1 <;> blk_point [iblk, V, idx t]

theorem final6 (c : Dev nD) : (dats m 0 c).arrAt 6 (cfgs 0).N
    = fun i => Adam.first (m ((c : Thread nD τ).loc main_arg1) i) (grad (m ((c : Thread nD τ).loc main_arg3)) i) := by
  refine (dats m 0 c).arrAt_eq_of_covers 6 _ (by decide +kernel) fun t _ y => ?_
  blk_simp
  rw [after0_6]
  frame_out
  rw [moment1, total, part m c t]
  congr 1 <;> blk_point [iblk, V, idx t]

theorem final7 (c : Dev nD) : (dats m 0 c).arrAt 7 (cfgs 0).N
    = fun i => Adam.second (m ((c : Thread nD τ).loc main_arg2) i) (grad (m ((c : Thread nD τ).loc main_arg3)) i) := by
  refine (dats m 0 c).arrAt_eq_of_covers 7 _ (by decide +kernel) fun t _ y => ?_
  blk_simp
  rw [after0_7]
  frame_out
  rw [moment2, total, part m c t]
  congr 1 <;> blk_point [iblk, V, idx t]

end Cert.Kernel20Ideal.StepOut

namespace Cert.Proof

open Cert.Kernel20Ideal.StepOut Cert.Reference20Ideal Cert.Reference20Ideal.Read

/-- The plain step's gradient, and its three other results entry by entry. -/
theorem step_out_grad (x) : val_main_v1 (F := Ideal) x = grad x := by
  funext i
  pointwise! [val_main_v1, val_main_v0, val_main_cst, grad]

theorem step_out_first (a x) : val_main_v6 (F := Ideal) a x = fun i => Cert.Adam.first (a i) (grad x i) := by
  funext i; rw [← step_out_grad]; rfl
theorem step_out_second (v x) : val_main_v12 (F := Ideal) v x = fun i => Cert.Adam.second (v i) (grad x i) := by
  funext i; rw [← step_out_grad]; rfl
theorem step_out_change (w a v x) :
    val_main_v25 (F := Ideal) w a v x = fun i => Cert.Adam.change (w i) (a i) (v i) (grad x i) := by
  funext i; rw [← step_out_grad]; rfl

/-- The plain step's run, its results so named. -/
theorem step_out_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = grad (m ((c.tc : Thread nD τ).loc main_arg3))
      ∧ r.2.mem ((c.tc : Thread nD τ).loc main_v25)
        = (fun i => Cert.Adam.change (m ((c.tc : Thread nD τ).loc main_arg0) i) (m ((c.tc : Thread nD τ).loc main_arg1) i)
            (m ((c.tc : Thread nD τ).loc main_arg2) i) (grad (m ((c.tc : Thread nD τ).loc main_arg3)) i))
      ∧ r.2.mem ((c.tc : Thread nD τ).loc main_v6)
        = (fun i => Cert.Adam.first (m ((c.tc : Thread nD τ).loc main_arg1) i) (grad (m ((c.tc : Thread nD τ).loc main_arg3)) i))
      ∧ r.2.mem ((c.tc : Thread nD τ).loc main_v12)
        = (fun i => Cert.Adam.second (m ((c.tc : Thread nD τ).loc main_arg2) i) (grad (m ((c.tc : Thread nD τ).loc main_arg3)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((val_main_v1_eq _).trans (step_out_grad _)),
      (h c).2.1.trans ((val_main_v25_eq _ _ _ _).trans (step_out_change _ _ _ _)),
      (h c).2.2.1.trans ((val_main_v6_eq _ _).trans (step_out_first _ _)),
      (h c).2.2.2.1.trans ((val_main_v12_eq _ _).trans (step_out_second _ _)),
      (h c).2.2.2.2⟩)
    (Cert.Reference20Ideal.Value.run (F := Ideal) m ρ)

theorem step_out_algebraic : Cert.algebraic_Kernel20Ideal_Reference20Ideal := by
  pair_intro
  · run_from Cert.Kernel20Ideal.Gen.run_main m g
  · run_from step_out_run m' g'
    · exact (final4 m c).symm
    · exact (final5 m c).symm
    · exact (final6 m c).symm
    · exact (final7 m c).symm

theorem step_out_frame : Cert.quiescent_Kernel20 := fun m ρ _ => Cert.Kernel20.Gen.frame m ρ
theorem step_out_frame_ideal : Cert.quiescent_Kernel20Ideal := fun m ρ _ => Cert.Kernel20Ideal.Gen.frame m ρ
theorem step_out_frame_reference : Cert.quiescent_Reference20Ideal := fun m ρ _ =>
  (θ_run Cert.Reference20Ideal.defs _ _).mono (fun r h => ⟨fun c => (h c).2.2.2.2,
      Idealize.ShloMosaic.sem_eq_zero_of_no_sems (by decide) r.2⟩)
    (Cert.Reference20Ideal.Value.run (F := Ideal) m ρ)

end Cert.Proof

end
-- ==== Proof.StepDown.lean ====
/-
  The step of the down weight: its gradient is the sum of eight parts, and the rest is entry by entry.
-/
module

public import proofs.«01_k».proof.Defs
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Pointwise
public import Idealize.ShloMosaic.Lib.Claim
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel21Ideal.StepDown

open Cert.Kernel21Ideal Cert.Kernel21Ideal.Gen

/-- The gradient: the eight parts added. -/
def grad (p : FVec Ideal S8x768x1024 .bf16) : FVec Ideal S768x1024 .f32 := fun i => ∑ s : Fin 8, p (ix3 s (i 0) (i 1))

/-- A block of the eight parts added, -/
def blocks (x : FVec Ideal S8x256x1024 .bf16) : FVec Ideal S256x1024 .f32 := fun j => ∑ s : Fin 8, x (ix3 s (j 0) (j 1))

/-- as the body adds it, from the left. -/
theorem total (x0 x1 x2 : FVec Ideal S256x1024 .f32) (x3 : FVec Ideal S8x256x1024 .bf16) (j) :
    k0_pay5 (F := Ideal) x0 x1 x2 x3 j = blocks x3 j := by
  pointwise [k0_pay5, k0_pay4, blocks]
  exact (Fin.sum_univ_eight (M := EReal) fun s => x3 (ix3 s (j 0) (j 1))).symm

/-- What it writes, entry by entry. -/
theorem moment1 (g v) (j) : k0_pay1 (F := Ideal) g v j = Adam.first (v j) (g j) := by pointwise [k0_pay1, Adam.first]
theorem moment2 (g v) (j) : k0_pay2 (F := Ideal) g v j = Adam.second (v j) (g j) := by pointwise [k0_pay2, Adam.second]
theorem delta (g w a v) (j) : k0_pay3 (F := Ideal) g w a v j = Adam.change (w j) (a j) (v j) (g j) := by
  pointwise [k0_pay3, k0_pay1, k0_pay2, Adam.first, Adam.second, Adam.change]

variable (m : (ℓ : Loc nD τ sig) → Buf (Elt Ideal) ℓ)

/-- Every window moves with the point, a block of rows at a time. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- A point's sum of blocks is the gradient at the block's rows. -/
theorem part (c : Dev nD) (t : Fin cfg0.N) (y : S256x1024.Idx) :
    blocks (iblk m c 3 t) y = grad (m ((c : Thread nD τ).loc main_arg3)) (((cfg0.win 4).blk t).view.emb y) := by
  refine Finset.sum_congr rfl fun s _ => ?_
  blk_point [iblk, V, idx t]

/-- The four results, each over its whole array. -/
theorem final4 (c : Dev nD) : (dats m 0 c).arrAt 4 (cfgs 0).N = grad (m ((c : Thread nD τ).loc main_arg3)) := by
  refine (dats m 0 c).arrAt_eq_of_covers 4 _ (by decide +kernel) fun t _ y => ?_
  blk_simp
  rw [after0_4]
  frame_out
  rw [total]
  exact part m c t _

theorem final5 (c : Dev nD) : (dats m 0 c).arrAt 5 (cfgs 0).N
    = fun i => Adam.change (m ((c : Thread nD τ).loc main_arg0) i) (m ((c : Thread nD τ).loc main_arg1) i)
        (m ((c : Thread nD τ).loc main_arg2) i) (grad (m ((c : Thread nD τ).loc main_arg3)) i) := by
  refine (dats m 0 c).arrAt_eq_of_covers 5 _ (by decide +kernel) fun t _ y => ?_
  blk_simp
  rw [after0_5]
  frame_out
  rw [delta, total, part m c t]
  congr 1 <;> blk_point [iblk, V, idx t]

theorem final6 (c : Dev nD) : (dats m 0 c).arrAt 6 (cfgs 0).N
    = fun i => Adam.first (m ((c : Thread nD τ).loc main_arg1) i) (grad (m ((c : Thread nD τ).loc main_arg3)) i) := by
  refine (dats m 0 c).arrAt_eq_of_covers 6 _ (by decide +kernel) fun t _ y => ?_
  blk_simp
  rw [after0_6]
  frame_out
  rw [moment1, total, part m c t]
  congr 1 <;> blk_point [iblk, V, idx t]

theorem final7 (c : Dev nD) : (dats m 0 c).arrAt 7 (cfgs 0).N
    = fun i => Adam.second (m ((c : Thread nD τ).loc main_arg2) i) (grad (m ((c : Thread nD τ).loc main_arg3)) i) := by
  refine (dats m 0 c).arrAt_eq_of_covers 7 _ (by decide +kernel) fun t _ y => ?_
  blk_simp
  rw [after0_7]
  frame_out
  rw [moment2, total, part m c t]
  congr 1 <;> blk_point [iblk, V, idx t]

end Cert.Kernel21Ideal.StepDown

namespace Cert.Proof

open Cert.Kernel21Ideal.StepDown Cert.Reference21Ideal Cert.Reference21Ideal.Read

/-- The plain step's gradient, and its three other results entry by entry. -/
theorem step_down_grad (x) : val_main_v1 (F := Ideal) x = grad x := by
  funext i
  pointwise! [val_main_v1, val_main_v0, val_main_cst, grad]

theorem step_down_first (a x) : val_main_v6 (F := Ideal) a x = fun i => Cert.Adam.first (a i) (grad x i) := by
  funext i; rw [← step_down_grad]; rfl
theorem step_down_second (v x) : val_main_v12 (F := Ideal) v x = fun i => Cert.Adam.second (v i) (grad x i) := by
  funext i; rw [← step_down_grad]; rfl
theorem step_down_change (w a v x) :
    val_main_v25 (F := Ideal) w a v x = fun i => Cert.Adam.change (w i) (a i) (v i) (grad x i) := by
  funext i; rw [← step_down_grad]; rfl

/-- The plain step's run, its results so named. -/
theorem step_down_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = grad (m ((c.tc : Thread nD τ).loc main_arg3))
      ∧ r.2.mem ((c.tc : Thread nD τ).loc main_v25)
        = (fun i => Cert.Adam.change (m ((c.tc : Thread nD τ).loc main_arg0) i) (m ((c.tc : Thread nD τ).loc main_arg1) i)
            (m ((c.tc : Thread nD τ).loc main_arg2) i) (grad (m ((c.tc : Thread nD τ).loc main_arg3)) i))
      ∧ r.2.mem ((c.tc : Thread nD τ).loc main_v6)
        = (fun i => Cert.Adam.first (m ((c.tc : Thread nD τ).loc main_arg1) i) (grad (m ((c.tc : Thread nD τ).loc main_arg3)) i))
      ∧ r.2.mem ((c.tc : Thread nD τ).loc main_v12)
        = (fun i => Cert.Adam.second (m ((c.tc : Thread nD τ).loc main_arg2) i) (grad (m ((c.tc : Thread nD τ).loc main_arg3)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((val_main_v1_eq _).trans (step_down_grad _)),
      (h c).2.1.trans ((val_main_v25_eq _ _ _ _).trans (step_down_change _ _ _ _)),
      (h c).2.2.1.trans ((val_main_v6_eq _ _).trans (step_down_first _ _)),
      (h c).2.2.2.1.trans ((val_main_v12_eq _ _).trans (step_down_second _ _)),
      (h c).2.2.2.2⟩)
    (Cert.Reference21Ideal.Value.run (F := Ideal) m ρ)

theorem step_down_algebraic : Cert.algebraic_Kernel21Ideal_Reference21Ideal := by
  pair_intro
  · run_from Cert.Kernel21Ideal.Gen.run_main m g
  · run_from step_down_run m' g'
    · exact (final4 m c).symm
    · exact (final5 m c).symm
    · exact (final6 m c).symm
    · exact (final7 m c).symm

theorem step_down_frame : Cert.quiescent_Kernel21 := fun m ρ _ => Cert.Kernel21.Gen.frame m ρ
theorem step_down_frame_ideal : Cert.quiescent_Kernel21Ideal := fun m ρ _ => Cert.Kernel21Ideal.Gen.frame m ρ
theorem step_down_frame_reference : Cert.quiescent_Reference21Ideal := fun m ρ _ =>
  (θ_run Cert.Reference21Ideal.defs _ _).mono (fun r h => ⟨fun c => (h c).2.2.2.2,
      Idealize.ShloMosaic.sem_eq_zero_of_no_sems (by decide) r.2⟩)
    (Cert.Reference21Ideal.Value.run (F := Ideal) m ρ)

end Cert.Proof

end
-- ==== Proof.StepGate.lean ====
/-
  The step of the gate's weight, or of the up weight: its gradient is the sum of eight parts, and the rest is entry by entry.
-/
module

public import proofs.«01_k».proof.Defs
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit
public import Idealize.ShloMosaic.Lib.Pointwise
public import Idealize.ShloMosaic.Lib.Claim
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel22Ideal.StepGate

open Cert.Kernel22Ideal Cert.Kernel22Ideal.Gen

/-- The gradient: the eight parts added. -/
def grad (p : FVec Ideal S8x2048x384 .bf16) : FVec Ideal S2048x384 .f32 := fun i => ∑ s : Fin 8, p (ix3 s (i 0) (i 1))

/-- A block of the eight parts added, -/
def blocks (x : FVec Ideal S8x512x384 .bf16) : FVec Ideal S512x384 .f32 := fun j => ∑ s : Fin 8, x (ix3 s (j 0) (j 1))

/-- as the body adds it, from the left. -/
theorem total (x0 x1 x2 : FVec Ideal S512x384 .f32) (x3 : FVec Ideal S8x512x384 .bf16) (j) :
    k0_pay5 (F := Ideal) x0 x1 x2 x3 j = blocks x3 j := by
  pointwise [k0_pay5, k0_pay4, blocks]
  exact (Fin.sum_univ_eight (M := EReal) fun s => x3 (ix3 s (j 0) (j 1))).symm

/-- What it writes, entry by entry. -/
theorem moment1 (g v) (j) : k0_pay1 (F := Ideal) g v j = Adam.first (v j) (g j) := by pointwise [k0_pay1, Adam.first]
theorem moment2 (g v) (j) : k0_pay2 (F := Ideal) g v j = Adam.second (v j) (g j) := by pointwise [k0_pay2, Adam.second]
theorem delta (g w a v) (j) : k0_pay3 (F := Ideal) g w a v j = Adam.change (w j) (a j) (v j) (g j) := by
  pointwise [k0_pay3, k0_pay1, k0_pay2, Adam.first, Adam.second, Adam.change]

variable (m : (ℓ : Loc nD τ sig) → Buf (Elt Ideal) ℓ)

/-- Every window moves with the point, a block of rows at a time. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- A point's sum of blocks is the gradient at the block's rows. -/
theorem part (c : Dev nD) (t : Fin cfg0.N) (y : S512x384.Idx) :
    blocks (iblk m c 3 t) y = grad (m ((c : Thread nD τ).loc main_arg3)) (((cfg0.win 4).blk t).view.emb y) := by
  refine Finset.sum_congr rfl fun s _ => ?_
  blk_point [iblk, V, idx t]

/-- The four results, each over its whole array. -/
theorem final4 (c : Dev nD) : (dats m 0 c).arrAt 4 (cfgs 0).N = grad (m ((c : Thread nD τ).loc main_arg3)) := by
  refine (dats m 0 c).arrAt_eq_of_covers 4 _ (by decide +kernel) fun t _ y => ?_
  blk_simp
  rw [after0_4]
  frame_out
  rw [total]
  exact part m c t _

theorem final5 (c : Dev nD) : (dats m 0 c).arrAt 5 (cfgs 0).N
    = fun i => Adam.change (m ((c : Thread nD τ).loc main_arg0) i) (m ((c : Thread nD τ).loc main_arg1) i)
        (m ((c : Thread nD τ).loc main_arg2) i) (grad (m ((c : Thread nD τ).loc main_arg3)) i) := by
  refine (dats m 0 c).arrAt_eq_of_covers 5 _ (by decide +kernel) fun t _ y => ?_
  blk_simp
  rw [after0_5]
  frame_out
  rw [delta, total, part m c t]
  congr 1 <;> blk_point [iblk, V, idx t]

theorem final6 (c : Dev nD) : (dats m 0 c).arrAt 6 (cfgs 0).N
    = fun i => Adam.first (m ((c : Thread nD τ).loc main_arg1) i) (grad (m ((c : Thread nD τ).loc main_arg3)) i) := by
  refine (dats m 0 c).arrAt_eq_of_covers 6 _ (by decide +kernel) fun t _ y => ?_
  blk_simp
  rw [after0_6]
  frame_out
  rw [moment1, total, part m c t]
  congr 1 <;> blk_point [iblk, V, idx t]

theorem final7 (c : Dev nD) : (dats m 0 c).arrAt 7 (cfgs 0).N
    = fun i => Adam.second (m ((c : Thread nD τ).loc main_arg2) i) (grad (m ((c : Thread nD τ).loc main_arg3)) i) := by
  refine (dats m 0 c).arrAt_eq_of_covers 7 _ (by decide +kernel) fun t _ y => ?_
  blk_simp
  rw [after0_7]
  frame_out
  rw [moment2, total, part m c t]
  congr 1 <;> blk_point [iblk, V, idx t]

end Cert.Kernel22Ideal.StepGate

namespace Cert.Proof

open Cert.Kernel22Ideal.StepGate Cert.Reference22Ideal Cert.Reference22Ideal.Read

/-- The plain step's gradient, and its three other results entry by entry. -/
theorem step_gate_grad (x) : val_main_v1 (F := Ideal) x = grad x := by
  funext i
  pointwise! [val_main_v1, val_main_v0, val_main_cst, grad]

theorem step_gate_first (a x) : val_main_v6 (F := Ideal) a x = fun i => Cert.Adam.first (a i) (grad x i) := by
  funext i; rw [← step_gate_grad]; rfl
theorem step_gate_second (v x) : val_main_v12 (F := Ideal) v x = fun i => Cert.Adam.second (v i) (grad x i) := by
  funext i; rw [← step_gate_grad]; rfl
theorem step_gate_change (w a v x) :
    val_main_v25 (F := Ideal) w a v x = fun i => Cert.Adam.change (w i) (a i) (v i) (grad x i) := by
  funext i; rw [← step_gate_grad]; rfl

/-- The plain step's run, its results so named. -/
theorem step_gate_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = grad (m ((c.tc : Thread nD τ).loc main_arg3))
      ∧ r.2.mem ((c.tc : Thread nD τ).loc main_v25)
        = (fun i => Cert.Adam.change (m ((c.tc : Thread nD τ).loc main_arg0) i) (m ((c.tc : Thread nD τ).loc main_arg1) i)
            (m ((c.tc : Thread nD τ).loc main_arg2) i) (grad (m ((c.tc : Thread nD τ).loc main_arg3)) i))
      ∧ r.2.mem ((c.tc : Thread nD τ).loc main_v6)
        = (fun i => Cert.Adam.first (m ((c.tc : Thread nD τ).loc main_arg1) i) (grad (m ((c.tc : Thread nD τ).loc main_arg3)) i))
      ∧ r.2.mem ((c.tc : Thread nD τ).loc main_v12)
        = (fun i => Cert.Adam.second (m ((c.tc : Thread nD τ).loc main_arg2) i) (grad (m ((c.tc : Thread nD τ).loc main_arg3)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((val_main_v1_eq _).trans (step_gate_grad _)),
      (h c).2.1.trans ((val_main_v25_eq _ _ _ _).trans (step_gate_change _ _ _ _)),
      (h c).2.2.1.trans ((val_main_v6_eq _ _).trans (step_gate_first _ _)),
      (h c).2.2.2.1.trans ((val_main_v12_eq _ _).trans (step_gate_second _ _)),
      (h c).2.2.2.2⟩)
    (Cert.Reference22Ideal.Value.run (F := Ideal) m ρ)

theorem step_gate_algebraic : Cert.algebraic_Kernel22Ideal_Reference22Ideal := by
  pair_intro
  · run_from Cert.Kernel22Ideal.Gen.run_main m g
  · run_from step_gate_run m' g'
    · exact (final4 m c).symm
    · exact (final5 m c).symm
    · exact (final6 m c).symm
    · exact (final7 m c).symm

theorem step_gate_frame : Cert.quiescent_Kernel22 := fun m ρ _ => Cert.Kernel22.Gen.frame m ρ
theorem step_gate_frame_ideal : Cert.quiescent_Kernel22Ideal := fun m ρ _ => Cert.Kernel22Ideal.Gen.frame m ρ
theorem step_gate_frame_reference : Cert.quiescent_Reference22Ideal := fun m ρ _ =>
  (θ_run Cert.Reference22Ideal.defs _ _).mono (fun r h => ⟨fun c => (h c).2.2.2.2,
      Idealize.ShloMosaic.sem_eq_zero_of_no_sems (by decide) r.2⟩)
    (Cert.Reference22Ideal.Value.run (F := Ideal) m ρ)

end Cert.Proof

end
-- ==== Proof.StepSmall.lean ====
/-
  The step of the small arrays laid side by side: its gradient is the sum of eight parts, and the rest is entry by entry.
-/
module

public import proofs.«01_k».proof.Defs
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pipeline.ValueKit
public import Idealize.ShloMosaic.Lib.Pointwise
public import Idealize.ShloMosaic.Lib.Claim
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel23Ideal.StepSmall

open Cert.Kernel23Ideal Cert.Kernel23Ideal.Gen

/-- The gradient: the eight parts added. -/
def grad (p : FVec Ideal S8x1280x128 .f32) : FVec Ideal S1280x128 .f32 := fun i => ∑ s : Fin 8, p (ix3 s (i 0) (i 1))

/-- A block of the eight parts added, -/
def blocks (x : FVec Ideal S8x256x128 .f32) : FVec Ideal S256x128 .f32 := fun j => ∑ s : Fin 8, x (ix3 s (j 0) (j 1))

/-- as the body adds it, from the left. -/
theorem total (x0 x1 x2 : FVec Ideal S256x128 .f32) (x3 : FVec Ideal S8x256x128 .f32) (j) :
    k0_pay7 (F := Ideal) x0 x1 x2 x3 j = blocks x3 j := by
  pointwise [k0_pay7, k0_pay4, blocks]
  exact (Fin.sum_univ_eight (M := EReal) fun s => x3 (ix3 s (j 0) (j 1))).symm

/-- What it writes, entry by entry. -/
theorem moment1 (x0 x1 x2 : FVec Ideal S256x128 .f32) (x3 : FVec Ideal S8x256x128 .f32) (j) :
    k0_pay1 (F := Ideal) (k0_pay8 x0 x1 x2 x3) (k0_pay9 x0 x1 x2 x3) j = Adam.first (x1 j) (blocks x3 j) := by
  rw [← total x0 x1 x2 x3]; pointwise [k0_pay1, k0_pay8, k0_pay9, k0_pay5, k0_pay6, k0_pay7, Adam.first]
theorem moment2 (g v) (j) : k0_pay2 (F := Ideal) g v j = Adam.second (v j) (g j) := by pointwise [k0_pay2, Adam.second]
theorem delta (g w a b v) (j) : k0_pay3 (F := Ideal) g w a b v j
    = (FloatOps.ofBits .f32 0xBA83126F#32 : Ideal .f32)
      * (Ideal.div (Ideal.div (k0_pay1 (F := Ideal) a b j) (FloatOps.ofBits .f32 0x3F26BD02#32 : Ideal .f32))
          (Ideal.sqrt (Ideal.div (Adam.second (v j) (g j)) (FloatOps.ofBits .f32 0x3C231ACC#32 : Ideal .f32))
            + (FloatOps.ofBits .f32 0x322BCC77#32 : Ideal .f32))
        + (FloatOps.ofBits .f32 0x3C23D70A#32 : Ideal .f32) * w j) := by
  pointwise [k0_pay3, k0_pay1, k0_pay2, Adam.second]

variable (m : (ℓ : Loc nD τ sig) → Buf (Elt Ideal) ℓ)

/-- Every window moves with the point, a block of rows at a time. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- A point's sum of blocks is the gradient at the block's rows. -/
theorem part (c : Dev nD) (t : Fin cfg0.N) (y : S256x128.Idx) :
    blocks (iblk m c 3 t) y = grad (m ((c : Thread nD τ).loc main_arg3)) (((cfg0.win 4).blk t).view.emb y) := by
  refine Finset.sum_congr rfl fun s _ => ?_
  blk_point [iblk, V, idx t]

/-- The four results, each over its whole array. -/
theorem final4 (c : Dev nD) : (dats m 0 c).arrAt 4 (cfgs 0).N = grad (m ((c : Thread nD τ).loc main_arg3)) := by
  refine (dats m 0 c).arrAt_eq_of_covers 4 _ (by decide +kernel) fun t _ y => ?_
  blk_simp
  rw [after0_4]
  frame_out
  rw [total]
  exact part m c t _

theorem final5 (c : Dev nD) : (dats m 0 c).arrAt 5 (cfgs 0).N
    = fun i => Adam.change (m ((c : Thread nD τ).loc main_arg0) i) (m ((c : Thread nD τ).loc main_arg1) i)
        (m ((c : Thread nD τ).loc main_arg2) i) (grad (m ((c : Thread nD τ).loc main_arg3)) i) := by
  refine (dats m 0 c).arrAt_eq_of_covers 5 _ (by decide +kernel) fun t _ y => ?_
  blk_simp
  rw [after0_5]
  frame_out
  rw [delta, moment1, total, part m c t]
  show Adam.change _ _ _ _ = _
  congr 1 <;> blk_point [iblk, V, idx t]

theorem final6 (c : Dev nD) : (dats m 0 c).arrAt 6 (cfgs 0).N
    = fun i => Adam.first (m ((c : Thread nD τ).loc main_arg1) i) (grad (m ((c : Thread nD τ).loc main_arg3)) i) := by
  refine (dats m 0 c).arrAt_eq_of_covers 6 _ (by decide +kernel) fun t _ y => ?_
  blk_simp
  rw [after0_6]
  frame_out
  rw [moment1, part m c t]
  congr 1 <;> blk_point [iblk, V, idx t]

theorem final7 (c : Dev nD) : (dats m 0 c).arrAt 7 (cfgs 0).N
    = fun i => Adam.second (m ((c : Thread nD τ).loc main_arg2) i) (grad (m ((c : Thread nD τ).loc main_arg3)) i) := by
  refine (dats m 0 c).arrAt_eq_of_covers 7 _ (by decide +kernel) fun t _ y => ?_
  blk_simp
  rw [after0_7]
  frame_out
  rw [moment2, total, part m c t]
  congr 1 <;> blk_point [iblk, V, idx t]

end Cert.Kernel23Ideal.StepSmall

namespace Cert.Proof

open Cert.Kernel23Ideal.StepSmall Cert.Reference23Ideal Cert.Reference23Ideal.Read

/-- The plain step's gradient, and its three other results entry by entry. -/
theorem step_small_grad (x) : val_main_v0 (F := Ideal) x = grad x := by
  funext i
  pointwise! [val_main_v0, val_main_cst, grad]

theorem step_small_first (a x) : val_main_v5 (F := Ideal) a x = fun i => Cert.Adam.first (a i) (grad x i) := by
  funext i; rw [← step_small_grad]; rfl
theorem step_small_second (v x) : val_main_v11 (F := Ideal) v x = fun i => Cert.Adam.second (v i) (grad x i) := by
  funext i; rw [← step_small_grad]; rfl
theorem step_small_change (w a v x) :
    val_main_v24 (F := Ideal) w a v x = fun i => Cert.Adam.change (w i) (a i) (v i) (grad x i) := by
  funext i; rw [← step_small_grad]; rfl

/-- The plain step's run, its results so named. -/
theorem step_small_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = grad (m ((c.tc : Thread nD τ).loc main_arg3))
      ∧ r.2.mem ((c.tc : Thread nD τ).loc main_v24)
        = (fun i => Cert.Adam.change (m ((c.tc : Thread nD τ).loc main_arg0) i) (m ((c.tc : Thread nD τ).loc main_arg1) i)
            (m ((c.tc : Thread nD τ).loc main_arg2) i) (grad (m ((c.tc : Thread nD τ).loc main_arg3)) i))
      ∧ r.2.mem ((c.tc : Thread nD τ).loc main_v5)
        = (fun i => Cert.Adam.first (m ((c.tc : Thread nD τ).loc main_arg1) i) (grad (m ((c.tc : Thread nD τ).loc main_arg3)) i))
      ∧ r.2.mem ((c.tc : Thread nD τ).loc main_v11)
        = (fun i => Cert.Adam.second (m ((c.tc : Thread nD τ).loc main_arg2) i) (grad (m ((c.tc : Thread nD τ).loc main_arg3)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((val_main_v0_eq _).trans (step_small_grad _)),
      (h c).2.1.trans ((val_main_v24_eq _ _ _ _).trans (step_small_change _ _ _ _)),
      (h c).2.2.1.trans ((val_main_v5_eq _ _).trans (step_small_first _ _)),
      (h c).2.2.2.1.trans ((val_main_v11_eq _ _).trans (step_small_second _ _)),
      (h c).2.2.2.2⟩)
    (Cert.Reference23Ideal.Value.run (F := Ideal) m ρ)

theorem step_small_algebraic : Cert.algebraic_Kernel23Ideal_Reference23Ideal := by
  pair_intro
  · run_from Cert.Kernel23Ideal.Gen.run_main m g
  · run_from step_small_run m' g'
    · exact (final4 m c).symm
    · exact (final5 m c).symm
    · exact (final6 m c).symm
    · exact (final7 m c).symm

theorem step_small_frame : Cert.quiescent_Kernel23 := fun m ρ _ => Cert.Kernel23.Gen.frame m ρ
theorem step_small_frame_ideal : Cert.quiescent_Kernel23Ideal := fun m ρ _ => Cert.Kernel23Ideal.Gen.frame m ρ
theorem step_small_frame_reference : Cert.quiescent_Reference23Ideal := fun m ρ _ =>
  (θ_run Cert.Reference23Ideal.defs _ _).mono (fun r h => ⟨fun c => (h c).2.2.2.2,
      Idealize.ShloMosaic.sem_eq_zero_of_no_sems (by decide) r.2⟩)
    (Cert.Reference23Ideal.Value.run (F := Ideal) m ρ)

end Cert.Proof

end
-- ==== Proof.StepConv.lean ====
/-
  The step of the convolution's kernels: its gradient comes in one part, and the rest is entry by entry.
-/
module

public import proofs.«01_k».proof.Defs
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pipeline.ValueKit
public import Idealize.ShloMosaic.Lib.Pointwise
public import Idealize.ShloMosaic.Lib.Claim
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel24Ideal.StepConv

open Cert.Kernel24Ideal Cert.Kernel24Ideal.Gen

/-- The gradient: the one part added. -/
def grad (p : FVec Ideal S1x16x128 .f32) : FVec Ideal S16x128 .f32 := fun i => ∑ s : Fin 1, p (ix3 s (i 0) (i 1))

/-- What the body writes, entry by entry. -/
theorem total (x : FVec Ideal S1x16x128 .f32) (j) : k0_pay1 (F := Ideal) x j = grad x j := by
  pointwise [k0_pay1, grad]
  exact (Fin.sum_univ_one (M := EReal) fun s => x (ix3 s (j 0) (j 1))).symm
theorem moment1 (x a) (j) : k0_pay2 (F := Ideal) x a j = Adam.first (a j) (grad x j) := by
  rw [← total]; pointwise [k0_pay2, Adam.first]
theorem moment2 (x v) (j) : k0_pay3 (F := Ideal) x v j = Adam.second (v j) (grad x j) := by
  rw [← total]; pointwise [k0_pay3, Adam.second]
theorem delta (x w a v) (j) : k0_pay4 (F := Ideal) x w a v j = Adam.change (w j) (a j) (v j) (grad x j) := by
  rw [← total]; pointwise [k0_pay4, k0_pay2, k0_pay3, Adam.first, Adam.second, Adam.change]

variable (m : (ℓ : Loc nD τ sig) → Buf (Elt Ideal) ℓ)

/-- Every window moves with the point, a block of rows at a time. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- A point's sum of blocks is the gradient at the block's rows. -/
theorem part (c : Dev nD) (t : Fin cfg0.N) (y : S16x128.Idx) :
    grad (iblk m c 3 t) y = grad (m ((c : Thread nD τ).loc main_arg3)) (((cfg0.win 4).blk t).view.emb y) := by
  refine Finset.sum_congr rfl fun s _ => ?_
  blk_point [iblk, V, idx t]

/-- The four results, each over its whole array. -/
theorem final4 (c : Dev nD) : (dats m 0 c).arrAt 4 (cfgs 0).N = grad (m ((c : Thread nD τ).loc main_arg3)) := by
  refine (dats m 0 c).arrAt_eq_of_covers 4 _ (by decide +kernel) fun t _ y => ?_
  blk_simp
  rw [after0_4]
  frame_out
  rw [total]
  exact part m c t _

theorem final5 (c : Dev nD) : (dats m 0 c).arrAt 5 (cfgs 0).N
    = fun i => Adam.change (m ((c : Thread nD τ).loc main_arg0) i) (m ((c : Thread nD τ).loc main_arg1) i)
        (m ((c : Thread nD τ).loc main_arg2) i) (grad (m ((c : Thread nD τ).loc main_arg3)) i) := by
  refine (dats m 0 c).arrAt_eq_of_covers 5 _ (by decide +kernel) fun t _ y => ?_
  blk_simp
  rw [after0_5]
  frame_out
  rw [delta, part m c t]
  congr 1 <;> blk_point [iblk, V, idx t]

theorem final6 (c : Dev nD) : (dats m 0 c).arrAt 6 (cfgs 0).N
    = fun i => Adam.first (m ((c : Thread nD τ).loc main_arg1) i) (grad (m ((c : Thread nD τ).loc main_arg3)) i) := by
  refine (dats m 0 c).arrAt_eq_of_covers 6 _ (by decide +kernel) fun t _ y => ?_
  blk_simp
  rw [after0_6]
  frame_out
  rw [moment1, part m c t]
  congr 1 <;> blk_point [iblk, V, idx t]

theorem final7 (c : Dev nD) : (dats m 0 c).arrAt 7 (cfgs 0).N
    = fun i => Adam.second (m ((c : Thread nD τ).loc main_arg2) i) (grad (m ((c : Thread nD τ).loc main_arg3)) i) := by
  refine (dats m 0 c).arrAt_eq_of_covers 7 _ (by decide +kernel) fun t _ y => ?_
  blk_simp
  rw [after0_7]
  frame_out
  rw [moment2, part m c t]
  congr 1 <;> blk_point [iblk, V, idx t]

end Cert.Kernel24Ideal.StepConv

namespace Cert.Proof

open Cert.Kernel24Ideal.StepConv Cert.Reference24Ideal Cert.Reference24Ideal.Read

/-- The plain step's gradient, and its three other results entry by entry. -/
theorem step_conv_grad (x) : val_main_v0 (F := Ideal) x = grad x := by
  funext i
  pointwise! [val_main_v0, val_main_cst, grad]

theorem step_conv_first (a x) : val_main_v5 (F := Ideal) a x = fun i => Cert.Adam.first (a i) (grad x i) := by
  funext i; rw [← step_conv_grad]; rfl
theorem step_conv_second (v x) : val_main_v11 (F := Ideal) v x = fun i => Cert.Adam.second (v i) (grad x i) := by
  funext i; rw [← step_conv_grad]; rfl
theorem step_conv_change (w a v x) :
    val_main_v24 (F := Ideal) w a v x = fun i => Cert.Adam.change (w i) (a i) (v i) (grad x i) := by
  funext i; rw [← step_conv_grad]; rfl

/-- The plain step's run, its results so named. -/
theorem step_conv_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = grad (m ((c.tc : Thread nD τ).loc main_arg3))
      ∧ r.2.mem ((c.tc : Thread nD τ).loc main_v24)
        = (fun i => Cert.Adam.change (m ((c.tc : Thread nD τ).loc main_arg0) i) (m ((c.tc : Thread nD τ).loc main_arg1) i)
            (m ((c.tc : Thread nD τ).loc main_arg2) i) (grad (m ((c.tc : Thread nD τ).loc main_arg3)) i))
      ∧ r.2.mem ((c.tc : Thread nD τ).loc main_v5)
        = (fun i => Cert.Adam.first (m ((c.tc : Thread nD τ).loc main_arg1) i) (grad (m ((c.tc : Thread nD τ).loc main_arg3)) i))
      ∧ r.2.mem ((c.tc : Thread nD τ).loc main_v11)
        = (fun i => Cert.Adam.second (m ((c.tc : Thread nD τ).loc main_arg2) i) (grad (m ((c.tc : Thread nD τ).loc main_arg3)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((val_main_v0_eq _).trans (step_conv_grad _)),
      (h c).2.1.trans ((val_main_v24_eq _ _ _ _).trans (step_conv_change _ _ _ _)),
      (h c).2.2.1.trans ((val_main_v5_eq _ _).trans (step_conv_first _ _)),
      (h c).2.2.2.1.trans ((val_main_v11_eq _ _).trans (step_conv_second _ _)),
      (h c).2.2.2.2⟩)
    (Cert.Reference24Ideal.Value.run (F := Ideal) m ρ)

theorem step_conv_algebraic : Cert.algebraic_Kernel24Ideal_Reference24Ideal := by
  pair_intro
  · run_from Cert.Kernel24Ideal.Gen.run_main m g
  · run_from step_conv_run m' g'
    · exact (final4 m c).symm
    · exact (final5 m c).symm
    · exact (final6 m c).symm
    · exact (final7 m c).symm

theorem step_conv_frame : Cert.quiescent_Kernel24 := fun m ρ _ => Cert.Kernel24.Gen.frame m ρ
theorem step_conv_frame_ideal : Cert.quiescent_Kernel24Ideal := fun m ρ _ => Cert.Kernel24Ideal.Gen.frame m ρ
theorem step_conv_frame_reference : Cert.quiescent_Reference24Ideal := fun m ρ _ =>
  (θ_run Cert.Reference24Ideal.defs _ _).mono (fun r h => ⟨fun c => (h c).2.2.2.2,
      Idealize.ShloMosaic.sem_eq_zero_of_no_sems (by decide) r.2⟩)
    (Cert.Reference24Ideal.Value.run (F := Ideal) m ρ)

end Cert.Proof

end
-- ==== Proof.Norm.lean ====
/-
  The gradient of a row's root-mean-square norm: the factored form and the expanded one agree on every row.
-/
module

public import proofs.«01_k».proof.Proof.Reals

@[expose] public section

noncomputable section

namespace Cert.Norm

open Idealize.ShloMosaic Cert.Reals Cert.Words

/-- A row's mean square, with the small constant, -/
def meanSq (x : Fin 1024 → EReal) : EReal :=
  Ideal.div (∑ k, x k * x k) (FloatOps.ofBits .f32 0x44800000#32 : Ideal .f32) + (FloatOps.ofBits .f32 0x358637BD#32 : Ideal .f32)

/-- the inverse of its root, -/
def root (x : Fin 1024 → EReal) : EReal := Ideal.rsqrt (meanSq x)

/-- the gradient of the norm at a gradient `e` of the result, factored, -/
def back (x e : Fin 1024 → EReal) (j : Fin 1024) : EReal :=
  root x * (e j - x j * root x * Ideal.div (∑ k, e k * (x k * root x)) (FloatOps.ofBits .f32 0x44800000#32 : Ideal .f32))

/-- and half the gradient of the mean square as the chain rule gives it. -/
def slope (x e : Fin 1024 → EReal) : EReal :=
  Ideal.div ((∑ k, x k * e k) * ((FloatOps.ofBits .f32 0xBF000000#32 : Ideal .f32) * Ideal.div (root x) (meanSq x)))
    (FloatOps.ofBits .f32 0x44800000#32 : Ideal .f32)

/-- Dividing by a real other than zero is multiplying by its inverse. -/
theorem div_real (a : EReal) {r : ℝ} (h : r ≠ 0) : Ideal.div a (r : EReal) = a * ((r⁻¹ : ℝ) : EReal) := by
  rw [Ideal.div, if_neg (by exact_mod_cast h), EReal.coe_inv]

/-- A nonnegative real factor goes into a sum. -/
theorem sum_mul_real {ι : Type} (s : Finset ι) (f : ι → EReal) {r : ℝ} (h : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (by exact_mod_cast h) (EReal.coe_ne_top r)]

theorem twice (a : EReal) : a + a = a * ((2 : ℝ) : EReal) := by
  have h : ((2 : ℝ) : EReal) = 1 + 1 := by rw [← EReal.coe_one, ← EReal.coe_add]; norm_num
  rw [h, EReal.left_distrib_of_nonneg zero_le_one zero_le_one, mul_one]

theorem mul_self_nonneg (x : EReal) : 0 ≤ x * x := by
  induction x using EReal.rec with
  | bot => simp
  | top => simp
  | coe r => exact_mod_cast _root_.mul_self_nonneg r

/-- A row is real with a positive mean square, or its mean square is infinite. -/
theorem meanSq_cases (x : Fin 1024 → EReal) :
    meanSq x = ⊤ ∨ (∀ k, IsReal (x k)) ∧ ∃ s : ℝ, 0 < s ∧ meanSq x = (s : EReal) := by
  obtain ⟨p, hp, he⟩ := small
  by_cases h : ∀ k, IsReal (x k)
  · right
    refine ⟨h, ?_⟩
    obtain ⟨q, hq⟩ := IsReal.sum Finset.univ (fun k => x k * x k) fun k _ => (h k).mul (h k)
    have h0 : (0 : EReal) ≤ q := hq ▸ Finset.sum_nonneg fun k _ => mul_self_nonneg _
    have hq0 : 0 ≤ q := by exact_mod_cast h0
    refine ⟨q * (1024 : ℝ)⁻¹ + p, by positivity, ?_⟩
    rw [meanSq, hq, he, kilo, div_real _ (by norm_num)]
    push_cast; rfl
  · left
    obtain ⟨k, hk⟩ := not_forall.mp h
    have ht : x k * x k = ⊤ := by
      revert hk
      induction x k using EReal.rec with
      | bot => intro _; rfl
      | top => intro _; rfl
      | coe r => intro hk; exact absurd ⟨r, rfl⟩ hk
    have hs : ∑ k, x k * x k = ⊤ := top_le_iff.mp (ht ▸ Finset.single_le_sum (f := fun k => x k * x k)
      (fun i _ => mul_self_nonneg _) (Finset.mem_univ k))
    rw [meanSq, hs, he, kilo, div_real _ (by norm_num), EReal.top_mul_coe_of_pos (by norm_num), EReal.top_add_coe]

/-- The two forms of the gradient agree. -/
theorem back_eq (x e : Fin 1024 → EReal) (j : Fin 1024) :
    back x e j = e j * root x + x j * slope x e + slope x e * x j := by
  rcases meanSq_cases x with h | ⟨hx, s, hs, h⟩
  · have hr : root x = 0 := by rw [root, h]; rfl
    have hd : Ideal.div 0 ⊤ = 0 := by rw [Ideal.div, if_neg (by simp), zero_mul]
    have hl : slope x e = 0 := by
      rw [slope, hr, h, hd, mul_zero, mul_zero, kilo, div_real _ (by norm_num), zero_mul]
    rw [back, hr, hl]; simp
  · obtain ⟨r, hr⟩ : ∃ r : ℝ, r = (Real.sqrt s)⁻¹ := ⟨_, rfl⟩
    have hrp : 0 ≤ r := hr ▸ inv_nonneg.mpr (Real.sqrt_nonneg s)
    have hrs : r * r * s = 1 := by
      have hq := Real.mul_self_sqrt hs.le
      have hp := Real.sqrt_pos.mpr hs
      rw [hr]; field_simp; nlinarith
    have hroot : root x = (r : EReal) := by
      rw [root, h, hr]
      show (if s < 0 then ⊥ else if s = 0 then ⊤ else (((Real.sqrt s)⁻¹ : ℝ) : EReal)) = _
      rw [if_neg (not_lt.mpr hs.le), if_neg hs.ne']
    obtain ⟨xj, hxj⟩ := hx j
    have hsum : ∑ k, e k * (x k * (r : EReal)) = (∑ k, x k * e k) * (r : EReal) := by
      rw [← sum_mul_real _ _ hrp]
      exact Finset.sum_congr rfl fun k _ => by rw [← mul_assoc, mul_comm (e k)]
    rw [back, slope, hroot, hsum, h, hxj, kilo, neg_half, div_real _ (by norm_num), div_real _ (by norm_num), div_real _ hs.ne',
      sub_eq_add_neg, EReal.left_distrib_of_nonneg_of_ne_top (by exact_mod_cast hrp) (EReal.coe_ne_top r), add_assoc,
      mul_comm (e j)]
    congr 1
    generalize ∑ k, x k * e k = S
    have hneg : (r : EReal) * -((xj : EReal) * r * (S * r * ((1024 : ℝ)⁻¹ : ℝ))) = S * ((-(r * r * r * xj * (1024 : ℝ)⁻¹) : ℝ) : EReal) := by
      rw [mul_neg, EReal.coe_neg, mul_neg]
      congr 1
      push_cast
      ring_nf
      ac_rfl
    have hpos : (xj : EReal) * (S * (((-(1 / 2) : ℝ) : EReal) * (r * ((s⁻¹ : ℝ) : EReal))) * ((1024 : ℝ)⁻¹ : ℝ))
        = S * ((-(r * r * r * xj * (1024 : ℝ)⁻¹) * 2⁻¹ : ℝ) : EReal) := by
      have : -(r * r * r * xj * (1024 : ℝ)⁻¹) * 2⁻¹ = xj * (-(1 / 2) * (r * s⁻¹) * (1024 : ℝ)⁻¹) := by
        have : s⁻¹ = r * r := by field_simp; linarith
        rw [this]; ring
      rw [this]
      push_cast
      ac_rfl
    rw [hneg, mul_comm (S * _ * _) (xj : EReal), hpos]
    rw [twice, mul_assoc S, ← EReal.coe_mul]
    congr 2; ring

end Cert.Norm

end
-- ==== Proof.NormRows.lean ====
/-
  Rows of an array under a norm, and the sum over rows that is the gradient of its scale, cut into tiles.
-/
module

public import proofs.«01_k».proof.Proof.Norm
public import Idealize.ShloMosaic.Lib.Pointwise
public import Idealize.ShloMosaic.Lib.Pipeline.ValueKit

@[expose] public section

noncomputable section

namespace Cert.Norm

open Idealize.ShloMosaic

/-- A row of an array. -/
def row {n : ℕ} (x : FVec Ideal ⟨2, ![n, 1024]⟩ .f32) (i : Fin n) (k : Fin 1024) : EReal := x (ix2 i k)

/-- A row of the gradient times the scale. -/
def scaled {n : ℕ} (h : FVec Ideal ⟨2, ![n, 1024]⟩ .f32) (g : FVec Ideal ⟨2, ![1, 1024]⟩ .f32) (i : Fin n) (k : Fin 1024) : EReal :=
  h (ix2 i k) * g (ix2 0 k)

/-- The scale's gradient at a column: every row's product, added. -/
def dots {n : ℕ} (h x : FVec Ideal ⟨2, ![n, 1024]⟩ .f32) (l : Fin 1024) : EReal :=
  ∑ k : Fin n, h (ix2 k l) * (x (ix2 k l) * root (row x k))

/-- The scale's gradient over all rows, in the first of eight rows. -/
def dscale (h x : FVec Ideal ⟨2, ![8192, 1024]⟩ .f32) : FVec Ideal ⟨2, ![8, 1024]⟩ .f32 := fun i =>
  if (i 0 : ℕ) = 0 then dots h x (i 1) else 0

/-- A tile's share of the scale's gradient, in the first of eight rows. -/
def share (h x : FVec Ideal ⟨2, ![512, 1024]⟩ .f32) : FVec Ideal ⟨2, ![8, 1024]⟩ .f32 := fun j =>
  if (j 0 : ℕ) = 0 then dots h x (j 1) else 0

/-- The sixteen tiles' sums of products, and their shares, added. -/
theorem dots_tiles (hs xs : Fin 16 → FVec Ideal ⟨2, ![512, 1024]⟩ .f32) (h x : FVec Ideal ⟨2, ![8192, 1024]⟩ .f32)
    (eh : ∀ (s : Fin 16) (k : Fin 512) (l : Fin 1024) (hl : s.val * 512 + k.val < 8192), hs s (ix2 k l) = h (ix2 ⟨_, hl⟩ l))
    (ex : ∀ (s : Fin 16) (k : Fin 512) (l : Fin 1024) (hl : s.val * 512 + k.val < 8192), xs s (ix2 k l) = x (ix2 ⟨_, hl⟩ l))
    (l : Fin 1024) : ∑ s : Fin 16, dots (hs s) (xs s) l = dots h x l := by
  refine Fin.sum_mul_add_congr fun s k hl => ?_
  have e : row (xs s) k = row x ⟨_, hl⟩ := funext fun l => ex s k l hl
  rw [e, eh s k _ hl, ex s k _ hl]

theorem share_sum (hs xs : Fin 16 → FVec Ideal ⟨2, ![512, 1024]⟩ .f32) (h x : FVec Ideal ⟨2, ![8192, 1024]⟩ .f32)
    (eh : ∀ (s : Fin 16) (k : Fin 512) (l : Fin 1024) (hl : s.val * 512 + k.val < 8192), hs s (ix2 k l) = h (ix2 ⟨_, hl⟩ l))
    (ex : ∀ (s : Fin 16) (k : Fin 512) (l : Fin 1024) (hl : s.val * 512 + k.val < 8192), xs s (ix2 k l) = x (ix2 ⟨_, hl⟩ l))
    (y : (⟨2, ![8, 1024]⟩ : Shape).Idx) : (∑ s : Fin 16, share (hs s) (xs s) y : EReal) = dscale h x y := by
  by_cases hy : (y 0 : ℕ) = 0
  · exact (Finset.sum_congr rfl fun s _ => if_pos hy).trans ((dots_tiles hs xs h x eh ex (y 1)).trans (if_pos hy).symm)
  · exact (Finset.sum_congr rfl fun s _ => if_neg hy).trans (Finset.sum_const_zero.trans (if_neg hy).symm)

end Cert.Norm

end
-- ==== Proof.NormGrad.lean ====
/-
  The gradient of a norm at one layer: the row's gradient beside the residual, and the scale's gradient added over all rows.
-/
module

public import proofs.«01_k».proof.Defs
public import proofs.«01_k».proof.Proof.Gen.Kernel15.Frame
public import proofs.«01_k».proof.Proof.Gen.Kernel15Ideal.Value
public import proofs.«01_k».proof.Proof.Gen.Reference15Ideal.Run
public import Idealize.ShloMosaic.Lib.Pipeline.ValueKit
public import Idealize.ShloMosaic.Lib.Pointwise
public import Idealize.ShloMosaic.Lib.Claim
public import Idealize.ShloMosaic.Lib.WritesUnit
public import proofs.«01_k».proof.Proof.Gen.Reference15Ideal.Read
public import proofs.«01_k».proof.Proof.NormRows

@[expose] public section

set_option maxRecDepth 16384

noncomputable section

open Idealize.ShloMosaic Idealize.ShloMosaic.TcCoe Idealize.SL.Sem
open Idealize.ShloMosaic.Pipeline (Dat)

namespace Cert.Kernel15Ideal.NormGrad

open Cert.Kernel15Ideal Cert.Kernel15Ideal.Gen Cert.Norm

/-- One row of a tile: the inverse root, -/
theorem tile_root (x : FVec Ideal S512x1024 .f32) (j) : k0_pay2 (F := Ideal) x j = Norm.root (row x (j 0)) := by
  pointwise [k0_pay2, Norm.root, Norm.meanSq, row]

/-- and the gradient. -/
theorem tile_back (h x : FVec Ideal S512x1024 .f32) (g : FVec Ideal S1x1024 .f32) (r : FVec Ideal S512x1024 .f32) (j) :
    k0_pay5 (F := Ideal) h x g r j = r j + Norm.back (row x (j 0)) (scaled h g (j 0)) (j 1) := by
  have e : row x (j 0) (j 1) = x j := by pointwise [row]
  pointwise [k0_pay5, k0_pay3, tile_root, Norm.back, scaled]
  rw [e]; rfl

/-- Every point adds its rows' products to the accumulated row. -/
theorem tile_scale (h x : FVec Ideal S512x1024 .f32) (a : FVec Ideal S1x1024 .f32) (j) :
    k0_pay4 (F := Ideal) h x a j
      = a j + dots h x (j 1) := by
  pointwise [k0_pay4, k0_pay3, tile_root, dots]

theorem zeros (j) : k0_pay1 (F := Ideal) j = 0 := by pointwise [k0_pay1]

/-- The gradient of the norm, beside the residual's, -/
def dx (h x : FVec Ideal S8192x1024 .f32) (g : FVec Ideal S1x1024 .f32) (r : FVec Ideal S8192x1024 .f32) :
    FVec Ideal S8192x1024 .f32 := fun i => r i + Norm.back (row x (i 0)) (scaled h g (i 0)) (i 1)

variable (m : (ℓ : Loc nD τ sig) → Buf (Elt Ideal) ℓ)

/-- Every window's block at a point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

theorem final_dx (c : Dev nD) : (dats m 0 c).arrAt 4 (cfgs 0).N
    = dx (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  have h : (outsAt0 m c t.val t.isLt).1 = k0_pay5 (F := Ideal) (iblk m c 0 t) (iblk m c 1 t) (iblk m c 2 t) (iblk m c 3 t) := by
    by_cases h0 : t.val % 16 = 0
    · rw [outsAt0_A m c t h0]; funext j; frame_out
    · rw [outsAt0_B m c t h0]; funext j; frame_out
  rw [h, tile_back]
  have e1 : row (iblk m c 1 t : FVec Ideal S512x1024 .f32) (y 0)
      = row (m ((c : Thread nD τ).loc main_arg1) : FVec Ideal S8192x1024 .f32) (((win0_4.blk t).view.emb y) 0) := by
    funext k; blk_point [row, iblk, V, idx t]
  have e2 : scaled (iblk m c 0 t : FVec Ideal S512x1024 .f32) (iblk m c 2 t : FVec Ideal S1x1024 .f32) (y 0)
      = scaled (m ((c : Thread nD τ).loc main_arg0) : FVec Ideal S8192x1024 .f32)
        (m ((c : Thread nD τ).loc main_arg2) : FVec Ideal S1x1024 .f32) (((win0_4.blk t).view.emb y) 0) := by
    funext k; blk_point [scaled, iblk, V, idx t]
  have e3 : (y 1 : Fin 1024) = ((win0_4.blk t).view.emb y) 1 := by
    apply Fin.ext; blk_point [idx t]
  have e4 : (iblk m c 3 t : FVec Ideal S512x1024 .f32) y
      = (m ((c : Thread nD τ).loc main_arg3) : FVec Ideal S8192x1024 .f32) ((win0_4.blk t).view.emb y) := by
    blk_point [iblk, V, idx t]
  exact congrArg₂ (· + ·) e4 (by rw [e1, e2]; exact congrArg _ e3)

/-- The first of a round's sixteen points finds zeros; the others find what the point before left. -/
theorem step_first (c : Dev nD) (t : Fin cfg0.N) (h : t.val % 16 = 0) (j) :
    (outsAt0 m c t.val t.isLt).2 j = 0 + share (iblk m c 0 t) (iblk m c 1 t) j := by
  rw [outsAt0_A m c t h]
  frame_out
  have hz : (![0, 0] : Fin S8x1024.rank → ℕ) = fun _ => 0 := by funext a; fin_cases a <;> rfl
  by_cases hj : (j 0 : ℕ) = 0
  · refine (congrArg _ (?_ : j = (Rect.unit (s := S8x1024) ![0, 0] ![1, 1024] inb_S8x1024_S1x1024_0_0).emb (ix2 0 (j 1)))).trans
      ((View.canon_cons_emb _ _ _ _).trans ?_)
    · funext a; apply Fin.ext
      rw [Rect.emb_apply]
      fin_cases a
      · simpa using hj
      · simp
    · rw [tile_scale, View.readCov_eq_canon', View.canon_unit_zero hz]
      exact congrArg₂ (· + ·) (zeros _) (if_pos hj).symm
  · rw [View.canon_cons_of_not_mem _ _ (by
        rw [Rect.mem_set_unit]; intro h; have := (h 0).2; simp at this; omega),
      View.canon_unit_zero hz, zeros, share, if_neg hj, add_zero]

theorem step_next (c : Dev nD) (t : Fin cfg0.N) (h : ¬t.val % 16 = 0) (j) : (outsAt0 m c t.val t.isLt).2 j
    = (outsAt0 m c (t.val - 1) (Nat.lt_of_le_of_lt (Nat.sub_le _ _) t.isLt)).2 j + share (iblk m c 0 t) (iblk m c 1 t) j := by
  rw [outsAt0_B m c t h]
  frame_out
  by_cases hj : (j 0 : ℕ) = 0
  · refine (View.read_writes_cons_rows_of_mem (o := 0) _ _ inb_S8x1024_S1x1024_0_0 _ _ j (ix2 0 (j 1)) rfl hj rfl).trans ?_
    rw [tile_scale]
    refine congrArg₂ (· + ·) (congrArg (outsAt0 m c (t.val - 1) (Nat.lt_of_le_of_lt (Nat.sub_le _ _) t.isLt)).2 ?_) (if_pos hj).symm
    funext a; apply Fin.ext
    fin_cases a
    · simpa using hj.symm
    · simp
  · rw [View.read_writes_cons_rows_of_not_mem (o := 0) (W := 1) _ _ _ _ _ j rfl rfl (by omega), View.writes_nil,
      Memref.IsWhole.read_unread, share, if_neg hj, add_zero]

theorem final_scale (c : Dev nD) : (dats m 0 c).arrAt 5 (cfgs 0).N
    = dscale (m ((c : Thread nD τ).loc main_arg0)) (m ((c : Thread nD τ).loc main_arg1)) := by
  refine (dats m 0 c).arrAt_eq_of_covers 5 _ (by decide +kernel) fun t hf y => ?_
  blk_simp
  rw [after0_5]
  rw [Pipeline.eq_sum_fin_of_reset_step_apply_of_flush (fun n h => (outsAt0 m c n h).2) 16 (fun _ => 0) _
    (fun t h j => step_first m c t h j) (fun t h j => step_next m c t h j) t ((flush0_5 t).mp hf) _, zero_add]
  have e : (win0_5.blk t).view.emb y = (y : S8x1024.Idx) := by
    funext a; apply Fin.ext; fin_cases a <;> blk_point [idx t]
  refine (share_sum _ _ (m ((c : Thread nD τ).loc main_arg0)) (m ((c : Thread nD τ).loc main_arg1)) ?_ ?_ y).trans
    (congrArg (dscale (m ((c : Thread nD τ).loc main_arg0)) (m ((c : Thread nD τ).loc main_arg1))) e.symm) <;>
  · intro s k l hl
    blk_point [iblk, V, idx ⟨_, Pipeline.run_point_lt_of_flush t ((flush0_5 t).mp hf) s⟩]

end Cert.Kernel15Ideal.NormGrad

namespace Cert.Proof

open Cert.Norm Cert.Kernel15Ideal.NormGrad Cert.Reference15Ideal Cert.Reference15Ideal.Read

/-- The plain gradient's steps and results, so named. -/
theorem norm_square (x) (i : S8192x1.Idx) : val_main_v6 (F := Ideal) x i = Cert.Norm.meanSq (row x (i 0)) := by
  pointwise [val_main_v6, val_main_v5, val_main_v4, val_main_v3, val_main_v2, val_main_v1, val_main_v0,
    val_main_cst, val_main_cst_0, val_main_cst_1, Cert.Norm.meanSq, row]

theorem norm_root (x) (i : S8192x1.Idx) : val_main_v7 (F := Ideal) x i = Cert.Norm.root (row x (i 0)) := by
  rw [Cert.Norm.root, ← norm_square]; rfl

theorem norm_slope (h x g) (i : S8192.Idx) : val_main_v28 (F := Ideal) h x g i = Cert.Norm.slope (row x (i 0)) (scaled h g (i 0)) := by
  pointwise [val_main_v28, val_main_v27, val_main_v26, val_main_v25, val_main_v22, val_main_v21, val_main_v20, val_main_v19,
    val_main_v18, val_main_v10, val_main_v9, val_main_v8, norm_root, norm_square, val_main_cst_2, val_main_cst_4, val_main_cst_5,
    val_main_cst_6, Cert.Norm.slope, row, scaled]
  exact Fin.sum_univ_one _

theorem norm_grad_dx (h x g r) : val_main_v34 (F := Ideal) h x g r = dx h x g r := by
  funext i
  refine Eq.trans ?_ (congrArg (r i + ·) (Cert.Norm.back_eq (row x (i 0)) (scaled h g (i 0)) (i 1)).symm)
  pointwise [val_main_v34, val_main_v33, val_main_v32, val_main_v31, val_main_v30, val_main_v29, val_main_v24, val_main_v23,
    val_main_v19, val_main_v18, norm_root, norm_slope]
  have e : row x (i 0) (i 1) = x i := by pointwise [row]
  have e' : scaled h g (i 0) (i 1) = h i * g (ix2 0 (i 1)) := by pointwise [scaled]
  rw [e, e']

theorem norm_product (h x) (i : S8192x1024.Idx) : val_main_v15 (F := Ideal) h x i = h i * (x i * Cert.Norm.root (row x (i 0))) := by
  pointwise [val_main_v15, val_main_v12, val_main_v11, norm_root]
  exact mul_comm _ _

theorem norm_grad_scale (h x) : val_main_v36 (F := Ideal) h x = dscale h x := by
  funext i
  pointwise! [val_main_v36, val_main_v35, val_main_v17, val_main_v16, norm_product, val_main_cst_3, val_main_cst_7, dscale, dots]
  simp only [Nat.lt_one_iff]; rfl

/-- The plain gradient's run, its results so named. -/
theorem norm_grad_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34)
        = dx (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v36)
        = dscale (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((val_main_v34_eq _ _ _ _).trans (norm_grad_dx _ _ _ _)),
      (h c).2.1.trans ((val_main_v36_eq _ _).trans (norm_grad_scale _ _)), (h c).2.2⟩)
    (Cert.Reference15Ideal.Value.run (F := Ideal) m ρ)

theorem norm_grad_algebraic : Cert.algebraic_Kernel15Ideal_Reference15Ideal := by
  pair_intro
  · run_from Cert.Kernel15Ideal.Gen.run_main m g
  · run_from norm_grad_run m' g'
    · exact (final_dx m c).symm
    · exact (final_scale m c).symm

theorem norm_grad_frame : Cert.quiescent_Kernel15 := fun m ρ _ => Cert.Kernel15.Gen.frame m ρ
theorem norm_grad_frame_ideal : Cert.quiescent_Kernel15Ideal := fun m ρ _ => Cert.Kernel15Ideal.Gen.frame m ρ
theorem norm_grad_frame_reference : Cert.quiescent_Reference15Ideal := fun m ρ _ =>
  (θ_run Cert.Reference15Ideal.defs _ _).mono (fun r h => ⟨fun c => (h c).2.2,
      Idealize.ShloMosaic.sem_eq_zero_of_no_sems (by decide) r.2⟩)
    (Cert.Reference15Ideal.Value.run (F := Ideal) m ρ)

end Cert.Proof

end
-- ==== Proof.FinalLoss.lean ====
/-
  The loss at the network's end and its gradient: the loss and the last norm's scale added over all rows, the row's gradient beside them.
-/
module

public import proofs.«01_k».proof.Defs
public import proofs.«01_k».proof.Proof.Gen.Kernel25.Frame
public import proofs.«01_k».proof.Proof.Gen.Kernel25Ideal.Value
public import proofs.«01_k».proof.Proof.Gen.Reference25Ideal.Run
public import Idealize.ShloMosaic.Lib.Pipeline.ValueKit
public import Idealize.ShloMosaic.Lib.Pointwise
public import Idealize.ShloMosaic.Lib.Claim
public import Idealize.ShloMosaic.Lib.WritesUnit
public import proofs.«01_k».proof.Proof.Gen.Reference25Ideal.Read
public import proofs.«01_k».proof.Proof.NormRows

@[expose] public section

set_option maxRecDepth 16384

noncomputable section

open Idealize.ShloMosaic Idealize.ShloMosaic.TcCoe Idealize.SL.Sem
open Idealize.ShloMosaic.Pipeline (Dat)

namespace Cert.Kernel25Ideal.FinalLoss

open Cert.Kernel25Ideal Cert.Kernel25Ideal.Gen Cert.Norm Cert.Words

/-- The error of the normed rows against the target, -/
def diff {n : ℕ} (x : FVec Ideal ⟨2, ![n, 1024]⟩ .f32) (g : FVec Ideal S1x1024 .f32) (t : FVec Ideal ⟨2, ![n, 1024]⟩ .f32) :
    FVec Ideal ⟨2, ![n, 1024]⟩ .f32 := fun i => x i * root (row x (i 0)) * g (ix2 0 (i 1)) - t i

/-- the loss's gradient at it, -/
def slopes {n : ℕ} (x : FVec Ideal ⟨2, ![n, 1024]⟩ .f32) (g : FVec Ideal S1x1024 .f32) (t : FVec Ideal ⟨2, ![n, 1024]⟩ .f32) :
    FVec Ideal ⟨2, ![n, 1024]⟩ .f32 := fun i => diff x g t i * (FloatOps.ofBits .f32 0x3A800000#32 : Ideal .f32)

/-- and the loss, half the error's mean square, added over the rows. -/
def loss {n : ℕ} (x : FVec Ideal ⟨2, ![n, 1024]⟩ .f32) (g : FVec Ideal S1x1024 .f32) (t : FVec Ideal ⟨2, ![n, 1024]⟩ .f32) : EReal :=
  ∑ k : Fin n, (FloatOps.ofBits .f32 0x3F000000#32 : Ideal .f32) * Ideal.div (∑ l : Fin 1024, diff x g t (ix2 k l) * diff x g t (ix2 k l))
    (FloatOps.ofBits .f32 0x44800000#32 : Ideal .f32)

/-- A row of a tile is a row of the array, and so is its error. -/
theorem diff_tile {n n' : ℕ} {x : FVec Ideal ⟨2, ![n, 1024]⟩ .f32} {x' : FVec Ideal ⟨2, ![n', 1024]⟩ .f32}
    (g : FVec Ideal S1x1024 .f32) {t : FVec Ideal ⟨2, ![n, 1024]⟩ .f32} {t' : FVec Ideal ⟨2, ![n', 1024]⟩ .f32} {k : Fin n} {k' : Fin n'}
    (ex : row x k = row x' k') (et : row t k = row t' k') (l : Fin 1024) : diff x g t (ix2 k l) = diff x' g t' (ix2 k' l) := by
  show x (ix2 k l) * root (row x k) * g (ix2 0 l) - t (ix2 k l) = x' (ix2 k' l) * root (row x' k') * g (ix2 0 l) - t' (ix2 k' l)
  have a : x (ix2 k l) = x' (ix2 k' l) := congrFun ex l
  have b : t (ix2 k l) = t' (ix2 k' l) := congrFun et l
  rw [a, b, ex]

/-- Sixteen tiles' losses add to the whole. -/
theorem loss_tiles (xs ts : Fin 16 → FVec Ideal S512x1024 .f32) (x t : FVec Ideal S8192x1024 .f32) (g : FVec Ideal S1x1024 .f32)
    (ex : ∀ (s : Fin 16) (k : Fin 512) (hl : s.val * 512 + k.val < 8192), row (xs s) k = row x ⟨_, hl⟩)
    (et : ∀ (s : Fin 16) (k : Fin 512) (hl : s.val * 512 + k.val < 8192), row (ts s) k = row t ⟨_, hl⟩) :
    ∑ s : Fin 16, loss (xs s) g (ts s) = loss x g t := by
  refine Fin.sum_mul_add_congr fun s k hl => ?_
  simp only [diff_tile g (ex s k hl) (et s k hl)]

/-- What the body computes, entry by entry. -/
theorem tile_root (x : FVec Ideal S512x1024 .f32) (j) : k0_pay5 (F := Ideal) x j = root (row x (j 0)) := by
  pointwise [k0_pay5, root, meanSq, row]
theorem tile_normed (x : FVec Ideal S512x1024 .f32) (j) : k0_pay6 (F := Ideal) x j = x j * root (row x (j 0)) := by
  pointwise [k0_pay6, tile_root]
theorem tile_diff (x : FVec Ideal S512x1024 .f32) (g) (t : FVec Ideal S512x1024 .f32) (j) : k0_pay7 (F := Ideal) x g t j = diff x g t j := by
  pointwise [k0_pay7, tile_normed, diff]
theorem tile_slopes (x : FVec Ideal S512x1024 .f32) (g) (t : FVec Ideal S512x1024 .f32) (j) :
    k0_pay9 (F := Ideal) x g t j = slopes x g t j := by
  pointwise [k0_pay9, tile_diff, slopes]
theorem tile_loss (x : FVec Ideal S512x1024 .f32) (g) (t : FVec Ideal S512x1024 .f32) (a : FVec Ideal S8x128 .f32) (j) :
    k0_pay8 (F := Ideal) x g t a j = a j + loss x g t := by
  pointwise [k0_pay8, tile_diff, loss]
theorem tile_scale (x : FVec Ideal S512x1024 .f32) (g) (t : FVec Ideal S512x1024 .f32) (a : FVec Ideal S1x1024 .f32) (j) :
    k0_pay1 (F := Ideal) (k0_pay6 x) (k0_pay9 x g t) a j = a j + dots (slopes x g t) x (j 1) := by
  pointwise [k0_pay1, tile_normed, tile_slopes, dots]
theorem tile_back (x : FVec Ideal S512x1024 .f32) (g) (t : FVec Ideal S512x1024 .f32) (j) :
    k0_pay2 (F := Ideal) g (k0_pay5 x) (k0_pay6 x) (k0_pay9 x g t) j = back (row x (j 0)) (scaled (slopes x g t) g (j 0)) (j 1) := by
  have e : row x (j 0) (j 1) = x j := by pointwise [row]
  pointwise [k0_pay2, tile_root, tile_normed, tile_slopes, back, scaled]
  rw [e]; rfl
theorem zeros (j) : k0_pay4 (F := Ideal) j = 0 := by pointwise [k0_pay4]
theorem zeros' (j) : k0_pay3 (F := Ideal) j = 0 := by pointwise [k0_pay3]

/-- The gradient at the network's last rows. -/
def dx (x : FVec Ideal S8192x1024 .f32) (g : FVec Ideal S1x1024 .f32) (t : FVec Ideal S8192x1024 .f32) : FVec Ideal S8192x1024 .f32 :=
  fun i => back (row x (i 0)) (scaled (slopes x g t) g (i 0)) (i 1)

variable (m : (ℓ : Loc nD τ sig) → Buf (Elt Ideal) ℓ)

/-- Every window's block at a point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, _)

/-- The scale's block is the whole of it. -/
theorem scale_block (c : Dev nD) (t : Fin cfg0.N) : (iblk m c 1 t : FVec Ideal S1x1024 .f32) = m ((c : Thread nD τ).loc main_arg1) := by
  funext i; blk_point [iblk, V, idx t]

theorem final_dx (c : Dev nD) : (dats m 0 c).arrAt 3 (cfgs 0).N
    = dx (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have h : (outsAt0 m c t.val t.isLt).1 = k0_pay2 (F := Ideal) (iblk m c 1 t) (k0_pay5 (iblk m c 0 t)) (k0_pay6 (iblk m c 0 t))
      (k0_pay9 (iblk m c 0 t) (iblk m c 1 t) (iblk m c 2 t)) := by
    by_cases h0 : t.val % 16 = 0
    · rw [outsAt0_A m c t h0]; funext j; frame_out
    · rw [outsAt0_B m c t h0]; funext j; frame_out
  rw [h, tile_back, scale_block]
  have e1 : row (iblk m c 0 t : FVec Ideal S512x1024 .f32) (y 0)
      = row (m ((c : Thread nD τ).loc main_arg0) : FVec Ideal S8192x1024 .f32) (((win0_3.blk t).view.emb y) 0) := by
    funext k; blk_point [row, iblk, V, idx t]
  have e2 : row (iblk m c 2 t : FVec Ideal S512x1024 .f32) (y 0)
      = row (m ((c : Thread nD τ).loc main_arg2) : FVec Ideal S8192x1024 .f32) (((win0_3.blk t).view.emb y) 0) := by
    funext k; blk_point [row, iblk, V, idx t]
  have e3 : (y 1 : Fin 1024) = ((win0_3.blk t).view.emb y) 1 := by
    apply Fin.ext; blk_point [idx t]
  have e4 : scaled (slopes (iblk m c 0 t : FVec Ideal S512x1024 .f32) (m ((c : Thread nD τ).loc main_arg1)) (iblk m c 2 t))
        (m ((c : Thread nD τ).loc main_arg1)) (y 0)
      = scaled (slopes (m ((c : Thread nD τ).loc main_arg0) : FVec Ideal S8192x1024 .f32) (m ((c : Thread nD τ).loc main_arg1))
          (m ((c : Thread nD τ).loc main_arg2))) (m ((c : Thread nD τ).loc main_arg1)) (((win0_3.blk t).view.emb y) 0) :=
    funext fun k => congrArg (fun d : EReal => d * _ * _) (diff_tile _ e1 e2 k)
  rw [e1, e4]; exact congrArg _ e3

/-- The first of sixteen points finds zeros; the others add to what the point before left. -/
theorem loss_first (c : Dev nD) (t : Fin cfg0.N) (h : t.val % 16 = 0) (j) : (outsAt0 m c t.val t.isLt).2.1 j
    = 0 + loss (iblk m c 0 t : FVec Ideal S512x1024 .f32) (m ((c : Thread nD τ).loc main_arg1)) (iblk m c 2 t) := by
  rw [outsAt0_A m c t h]
  frame_out
  rw [tile_loss, zeros', scale_block]

theorem loss_next (c : Dev nD) (t : Fin cfg0.N) (h : ¬t.val % 16 = 0) (j) : (outsAt0 m c t.val t.isLt).2.1 j
    = (outsAt0 m c (t.val - 1) (Nat.lt_of_le_of_lt (Nat.sub_le _ _) t.isLt)).2.1 j
      + loss (iblk m c 0 t : FVec Ideal S512x1024 .f32) (m ((c : Thread nD τ).loc main_arg1)) (iblk m c 2 t) := by
  rw [outsAt0_B m c t h]
  frame_out
  rw [tile_loss, scale_block]

theorem scale_first (c : Dev nD) (t : Fin cfg0.N) (h : t.val % 16 = 0) (j) : (outsAt0 m c t.val t.isLt).2.2 j
    = 0 + share (slopes (iblk m c 0 t) (m ((c : Thread nD τ).loc main_arg1)) (iblk m c 2 t)) (iblk m c 0 t) j := by
  rw [outsAt0_A m c t h]
  frame_out
  have hz : (![0, 0] : Fin S8x1024.rank → ℕ) = fun _ => 0 := by funext a; fin_cases a <;> rfl
  by_cases hj : (j 0 : ℕ) = 0
  · refine (congrArg _ (?_ : j = (Rect.unit (s := S8x1024) ![0, 0] ![1, 1024] inb_S8x1024_S1x1024_0_0).emb (ix2 0 (j 1)))).trans
      ((View.canon_cons_emb _ _ _ _).trans ?_)
    · funext a; apply Fin.ext
      rw [Rect.emb_apply]
      fin_cases a
      · simpa using hj
      · simp
    · rw [tile_scale, View.readCov_eq_canon', View.canon_unit_zero hz, scale_block]
      exact congrArg₂ (· + ·) (zeros _) (if_pos hj).symm
  · rw [View.canon_cons_of_not_mem _ _ (by
        rw [Rect.mem_set_unit]; intro h; have := (h 0).2; simp at this; omega),
      View.canon_unit_zero hz, zeros, share, if_neg hj, add_zero]

theorem scale_next (c : Dev nD) (t : Fin cfg0.N) (h : ¬t.val % 16 = 0) (j) : (outsAt0 m c t.val t.isLt).2.2 j
    = (outsAt0 m c (t.val - 1) (Nat.lt_of_le_of_lt (Nat.sub_le _ _) t.isLt)).2.2 j
      + share (slopes (iblk m c 0 t) (m ((c : Thread nD τ).loc main_arg1)) (iblk m c 2 t)) (iblk m c 0 t) j := by
  rw [outsAt0_B m c t h]
  frame_out
  by_cases hj : (j 0 : ℕ) = 0
  · refine (View.read_writes_cons_rows_of_mem (o := 0) _ _ inb_S8x1024_S1x1024_0_0 _ _ j (ix2 0 (j 1)) rfl hj rfl).trans ?_
    rw [tile_scale, scale_block]
    refine congrArg₂ (· + ·) (congrArg (outsAt0 m c (t.val - 1) (Nat.lt_of_le_of_lt (Nat.sub_le _ _) t.isLt)).2.2 ?_) (if_pos hj).symm
    funext a; apply Fin.ext
    fin_cases a
    · simpa using hj.symm
    · simp
  · rw [View.read_writes_cons_rows_of_not_mem (o := 0) (W := 1) _ _ _ _ _ j rfl rfl (by omega), View.writes_nil,
      Memref.IsWhole.read_unread, share, if_neg hj, add_zero]

theorem final_loss (c : Dev nD) : (dats m 0 c).arrAt 4 (cfgs 0).N
    = (fun _ => loss (m ((c : Thread nD τ).loc main_arg0) : FVec Ideal S8192x1024 .f32) (m ((c : Thread nD τ).loc main_arg1))
        (m ((c : Thread nD τ).loc main_arg2)) : FVec Ideal S8x128 .f32) := by
  refine (dats m 0 c).arrAt_eq_of_covers 4 _ (by decide +kernel) fun t hf y => ?_
  blk_simp
  rw [after0_4]
  rw [Pipeline.eq_sum_fin_of_reset_step_apply_of_flush (fun n h => (outsAt0 m c n h).2.1) 16 (fun _ => 0)
    (fun t _ => loss (iblk m c 0 t : FVec Ideal S512x1024 .f32) (m ((c : Thread nD τ).loc main_arg1)) (iblk m c 2 t))
    (fun t h j => loss_first m c t h j) (fun t h j => loss_next m c t h j) t ((flush0_4 t).mp hf) _, zero_add]
  refine loss_tiles _ _ _ _ _ ?_ ?_ <;>
  · intro s k hl
    funext l
    blk_point [row, iblk, V, idx ⟨_, Pipeline.run_point_lt_of_flush t ((flush0_4 t).mp hf) s⟩]

theorem final_scale (c : Dev nD) : (dats m 0 c).arrAt 5 (cfgs 0).N
    = dscale (slopes (m ((c : Thread nD τ).loc main_arg0)) (m ((c : Thread nD τ).loc main_arg1)) (m ((c : Thread nD τ).loc main_arg2)))
        (m ((c : Thread nD τ).loc main_arg0)) := by
  refine (dats m 0 c).arrAt_eq_of_covers 5 _ (by decide +kernel) fun t hf y => ?_
  blk_simp
  rw [after0_5]
  rw [Pipeline.eq_sum_fin_of_reset_step_apply_of_flush (fun n h => (outsAt0 m c n h).2.2) 16 (fun _ => 0) _
    (fun t h j => scale_first m c t h j) (fun t h j => scale_next m c t h j) t ((flush0_5 t).mp hf) _, zero_add]
  have e : (win0_5.blk t).view.emb y = (y : S8x1024.Idx) := by
    funext a; apply Fin.ext; fin_cases a <;> blk_point [idx t]
  have ex : ∀ (s : Fin 16) (k : Fin 512) (hl : s.val * 512 + k.val < 8192),
      row (iblk m c 0 ⟨16 * (t.val / 16) + s.val, Pipeline.run_point_lt_of_flush t ((flush0_5 t).mp hf) s⟩ : FVec Ideal S512x1024 .f32) k
        = row (m ((c : Thread nD τ).loc main_arg0) : FVec Ideal S8192x1024 .f32) ⟨_, hl⟩ := by
    intro s k hl; funext l
    blk_point [row, iblk, V, idx ⟨_, Pipeline.run_point_lt_of_flush t ((flush0_5 t).mp hf) s⟩]
  have et : ∀ (s : Fin 16) (k : Fin 512) (hl : s.val * 512 + k.val < 8192),
      row (iblk m c 2 ⟨16 * (t.val / 16) + s.val, Pipeline.run_point_lt_of_flush t ((flush0_5 t).mp hf) s⟩ : FVec Ideal S512x1024 .f32) k
        = row (m ((c : Thread nD τ).loc main_arg2) : FVec Ideal S8192x1024 .f32) ⟨_, hl⟩ := by
    intro s k hl; funext l
    blk_point [row, iblk, V, idx ⟨_, Pipeline.run_point_lt_of_flush t ((flush0_5 t).mp hf) s⟩]
  exact (share_sum _ _ (slopes (m ((c : Thread nD τ).loc main_arg0)) (m ((c : Thread nD τ).loc main_arg1)) (m ((c : Thread nD τ).loc main_arg2)))
      (m ((c : Thread nD τ).loc main_arg0))
      (fun s k l hl => congrArg (· * _) (diff_tile _ (ex s k hl) (et s k hl) l)) (fun s k l hl => congrFun (ex s k hl) l) y).trans
    (congrArg (dscale _ _) e.symm)

end Cert.Kernel25Ideal.FinalLoss

namespace Cert.Proof

open Cert.Norm Cert.Words Cert.Kernel25Ideal.FinalLoss Cert.Reference25Ideal Cert.Reference25Ideal.Read

/-- The loss's gradient at the error, from the chain rule's product. -/
theorem loss_slope (e : EReal) :
    Ideal.div (FloatOps.ofBits .f32 0x3F000000#32 : Ideal .f32)
        (FloatOps.ofBits .f32 0x44800000#32 : Ideal .f32) * ((FloatOps.ofBits .f32 0x40000000#32 : Ideal .f32) * e)
      = e * (FloatOps.ofBits .f32 0x3A800000#32 : Ideal .f32) := by
  rw [half, kilo, two, kilo_inv, div_real _ (by norm_num), ← mul_assoc, mul_comm e, ← EReal.coe_mul, ← EReal.coe_mul]
  norm_num

/-- The plain gradient's steps and results, so named. -/
theorem final_square (x) (i : S8192x1.Idx) : val_main_v6 (F := Ideal) x i = meanSq (row x (i 0)) := by
  pointwise [val_main_v6, val_main_v5, val_main_v4, val_main_v3, val_main_v2, val_main_v1, val_main_v0,
    val_main_cst, val_main_cst_0, val_main_cst_1, meanSq, row]

theorem final_root (x) (i : S8192x1.Idx) : val_main_v7 (F := Ideal) x i = root (row x (i 0)) := by
  rw [root, ← final_square]; rfl

theorem final_diff (x g t) (i : S8192x1024.Idx) : val_main_v15 (F := Ideal) x g t i = diff x g t i := by
  pointwise [val_main_v15, val_main_v14, val_main_v13, val_main_v12, val_main_v11, final_root, diff]

theorem final_slopes (x g t) (i : S8192x1024.Idx) : val_main_v29 (F := Ideal) x g t i = slopes x g t i := by
  pointwise [val_main_v29, val_main_v28, val_main_v27, val_main_v26, val_main_v25, val_main_v24, val_main_v18, val_main_v17, final_diff,
    val_main_cst_3, val_main_cst_8, val_main_cst_9, val_main_cst_10, slopes]
  exact loss_slope _

theorem final_chain (x g t) (i : S8192.Idx) :
    val_main_v43 (F := Ideal) x g t i = Cert.Norm.slope (row x (i 0)) (scaled (slopes x g t) g (i 0)) := by
  pointwise [val_main_v43, val_main_v42, val_main_v41, val_main_v40, val_main_v37, val_main_v36, val_main_v35, val_main_v34, val_main_v33,
    val_main_v10, val_main_v9, val_main_v8, final_root, final_square, final_slopes, val_main_cst_2, val_main_cst_12, val_main_cst_13,
    val_main_cst_14, Cert.Norm.slope, row, scaled]
  exact Fin.sum_univ_one _

theorem final_loss_dx (x g t) : val_main_v48 (F := Ideal) x g t = dx x g t := by
  funext i
  refine Eq.trans ?_ (back_eq (row x (i 0)) (scaled (slopes x g t) g (i 0)) (i 1)).symm
  pointwise [val_main_v48, val_main_v47, val_main_v46, val_main_v45, val_main_v44, val_main_v39, val_main_v38, val_main_v34, val_main_v33,
    final_root, final_slopes, final_chain]
  have e : row x (i 0) (i 1) = x i := by pointwise [row]
  have e' : scaled (slopes x g t) g (i 0) (i 1) = slopes x g t i * g (ix2 0 (i 1)) := by pointwise [scaled]
  rw [e, e']

theorem final_loss_value (x g t) : val_main_v49 (F := Ideal) x g t = fun _ => loss (n := 8192) x g t := by
  funext i
  pointwise! [val_main_v49, val_main_v23, val_main_v22, val_main_v21, val_main_v20, val_main_v19, val_main_v16, final_diff,
    val_main_cst_4, val_main_cst_5, val_main_cst_6, val_main_cst_7]
  have h : (Ideal.ofBits .f32 0x3F000000#32 : EReal) = ((1 / 2 : ℝ) : EReal) := half
  rw [h, mul_comm, ← sum_mul_real _ _ (by norm_num)]
  exact Finset.sum_congr rfl fun k _ => (mul_comm _ _).trans (congrArg (· * _) half.symm)

theorem final_product (x g t) (i : S8192x1024.Idx) :
    val_main_v30 (F := Ideal) x g t i = slopes x g t i * (x i * root (row x (i 0))) := by
  pointwise [val_main_v30, val_main_v12, val_main_v11, final_root, final_slopes]
  exact mul_comm _ _

theorem final_loss_scale (x g t) : val_main_v51 (F := Ideal) x g t = dscale (slopes x g t) x := by
  funext i
  pointwise! [val_main_v51, val_main_v50, val_main_v32, val_main_v31, final_product, val_main_cst_11, val_main_cst_15, dscale, dots]
  simp only [Nat.lt_one_iff]; rfl

/-- The plain run, its results so named. -/
theorem final_loss_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48)
        = dx (m ((c.tc : Thread nD τ).loc main_arg0)) (m ((c.tc : Thread nD τ).loc main_arg1)) (m ((c.tc : Thread nD τ).loc main_arg2))
      ∧ r.2.mem ((c.tc : Thread nD τ).loc main_v49)
        = (fun _ => loss (n := 8192) (m ((c.tc : Thread nD τ).loc main_arg0)) (m ((c.tc : Thread nD τ).loc main_arg1))
            (m ((c.tc : Thread nD τ).loc main_arg2)))
      ∧ r.2.mem ((c.tc : Thread nD τ).loc main_v51)
        = dscale (slopes (m ((c.tc : Thread nD τ).loc main_arg0)) (m ((c.tc : Thread nD τ).loc main_arg1))
            (m ((c.tc : Thread nD τ).loc main_arg2))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((val_main_v48_eq _ _).trans (final_loss_dx _ _ _)),
      (h c).2.1.trans ((val_main_v49_eq _ _ _).trans (final_loss_value _ _ _)),
      (h c).2.2.1.trans ((val_main_v51_eq _ _ _).trans (final_loss_scale _ _ _)), (h c).2.2.2⟩)
    (Cert.Reference25Ideal.Value.run (F := Ideal) m ρ)

theorem final_loss_algebraic : Cert.algebraic_Kernel25Ideal_Reference25Ideal := by
  pair_intro
  · run_from Cert.Kernel25Ideal.Gen.run_main m g
  · run_from final_loss_run m' g'
    · exact (final_dx m c).symm
    · exact (final_loss m c).symm
    · exact (final_scale m c).symm

theorem final_loss_frame : Cert.quiescent_Kernel25 := fun m ρ _ => Cert.Kernel25.Gen.frame m ρ
theorem final_loss_frame_ideal : Cert.quiescent_Kernel25Ideal := fun m ρ _ => Cert.Kernel25Ideal.Gen.frame m ρ
theorem final_loss_frame_reference : Cert.quiescent_Reference25Ideal := fun m ρ _ =>
  (θ_run Cert.Reference25Ideal.defs _ _).mono (fun r h => ⟨fun c => (h c).2.2.2,
      Idealize.ShloMosaic.sem_eq_zero_of_no_sems (by decide) r.2⟩)
    (Cert.Reference25Ideal.Value.run (F := Ideal) m ρ)

end Cert.Proof

end
-- ==== Proof.StepIn.lean ====
/-
  The step of the input projection's weight on each device of the mesh: the summed gradient is read from the device's own
  window of columns, which starts at the device's offset and goes on around the end.
-/
module

public import proofs.«01_k».proof.Defs
public import proofs.«01_k».proof.Proof.Gen.Kernel26Ideal.Value
public import Idealize.ShloMosaic.Lib.Pipeline.ValueKit
public import Idealize.ShloMosaic.Lib.Pointwise
public import Idealize.ShloMosaic.Lib.Claim
public import Idealize.ShloMosaic.Lib.KernelVsHost
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Kernel26Ideal.StepIn

open Cert.Kernel26Ideal Cert.Kernel26Ideal.Gen

/-- A device's offset: the column at which its window starts, -/
def offset (c : Fin 8) : Nat := if c.val < 6 then c.val else c.val + 120

/-- and the column of the window that holds the shard's column `q`. -/
def column (c : Fin 8) (q : Fin 640) : Fin 640 := ⟨(q.val + offset c) % 640, Nat.mod_lt _ (by decide)⟩

/-- The gradient: the eight parts added, at the window's column. -/
def grad (c : Fin 8) (p : FVec Ideal S8x2048x640 .bf16) : FVec Ideal S2048x640 .f32 :=
  fun i => ∑ s : Fin 8, p (ix3 s (i 0) (column c (i 1)))

theorem offset_lt (c : Fin 8) : offset c < 128 := by revert c; decide

/-- The body rotates by the row's length less the offset: -/
theorem back (c : Fin 8) (q : Fin 640) : (q.val + 640 - (640 - offset c) % 640) % 640 = (column c q).val := by
  have := offset_lt c
  show _ = (q.val + offset c) % 640
  have := q.isLt
  by_cases h : offset c = 0
  · rw [h]; simp
  · rw [Nat.mod_eq_of_lt (a := 640 - offset c) (by omega)]
    congr 1; omega

/-- The word it rotates by, device by device, -/
theorem word : ∀ c : Fin 8, (640 - offset c) =
    (Scalar.subi 640#32 (Scalar.select (Scalar.cmpi .slt (Scalar.addi (Scalar.addi (Scalar.muli 4#32 (Scalar.remsi (Scalar.divsi (BitVec.ofNat 32 c.val) 4#32) 2#32)) (Scalar.muli 2#32 (Scalar.remsi (Scalar.divsi (BitVec.ofNat 32 c.val) 2#32) 2#32))) (Scalar.remsi (Scalar.divsi (BitVec.ofNat 32 c.val) 1#32) 2#32)) 6#32) (Scalar.addi (Scalar.addi (Scalar.muli 4#32 (Scalar.remsi (Scalar.divsi (BitVec.ofNat 32 c.val) 4#32) 2#32)) (Scalar.muli 2#32 (Scalar.remsi (Scalar.divsi (BitVec.ofNat 32 c.val) 2#32) 2#32))) (Scalar.remsi (Scalar.divsi (BitVec.ofNat 32 c.val) 1#32) 2#32)) (Scalar.addi (Scalar.addi (Scalar.addi (Scalar.muli 4#32 (Scalar.remsi (Scalar.divsi (BitVec.ofNat 32 c.val) 4#32) 2#32)) (Scalar.muli 2#32 (Scalar.remsi (Scalar.divsi (BitVec.ofNat 32 c.val) 2#32) 2#32))) (Scalar.remsi (Scalar.divsi (BitVec.ofNat 32 c.val) 1#32) 2#32)) 120#32))).toNat := by
  decide +kernel

/-- so the rotated sum is the sum at the window's column. -/
theorem rotated (x : FVec Ideal S256x640 .f32) (c : Dev nD) (j) :
    k0_pay3 (F := Ideal) x c (Dev.word c) 2#32 4#32 j = x (ix2 (j 0) (column c (j 1))) := by
  refine (dynamicRotate_apply (1 : Fin 2) _ x rotates_S256x640_d1 j (ix2 (j 0) (column c (j 1))) fun b => ?_)
  match b with
  | ⟨0, _⟩ => rfl
  | ⟨1, _⟩ =>
    have h := back c (j 1)
    rw [word c] at h
    exact h.symm

/-- The eight parts of a block as the body adds them, from the left. -/
def added (x : FVec Ideal S8x256x640 .bf16) : FVec Ideal S256x640 .f32 :=
  k0_pay2 (F := Ideal)
    (View.ld (Val := Elt Ideal) (S := S8x256x640) (e' := .bf16) x (Rect.unit ![0, 0, 0] ![1, 256, 640] inb_S8x256x640_S1x256x640_0_0_0))
    (View.ld (Val := Elt Ideal) (S := S8x256x640) (e' := .bf16) x (Rect.unit ![1, 0, 0] ![1, 256, 640] inb_S8x256x640_S1x256x640_1_0_0))
    (View.ld (Val := Elt Ideal) (S := S8x256x640) (e' := .bf16) x (Rect.unit ![2, 0, 0] ![1, 256, 640] inb_S8x256x640_S1x256x640_2_0_0))
    (View.ld (Val := Elt Ideal) (S := S8x256x640) (e' := .bf16) x (Rect.unit ![3, 0, 0] ![1, 256, 640] inb_S8x256x640_S1x256x640_3_0_0))
    (View.ld (Val := Elt Ideal) (S := S8x256x640) (e' := .bf16) x (Rect.unit ![4, 0, 0] ![1, 256, 640] inb_S8x256x640_S1x256x640_4_0_0))
    (View.ld (Val := Elt Ideal) (S := S8x256x640) (e' := .bf16) x (Rect.unit ![5, 0, 0] ![1, 256, 640] inb_S8x256x640_S1x256x640_5_0_0))
    (View.ld (Val := Elt Ideal) (S := S8x256x640) (e' := .bf16) x (Rect.unit ![6, 0, 0] ![1, 256, 640] inb_S8x256x640_S1x256x640_6_0_0))
    (View.ld (Val := Elt Ideal) (S := S8x256x640) (e' := .bf16) x (Rect.unit ![7, 0, 0] ![1, 256, 640] inb_S8x256x640_S1x256x640_7_0_0))

theorem added_apply (x : FVec Ideal S8x256x640 .bf16) (j) : added x j = ∑ s : Fin 8, x (ix3 s (j 0) (j 1)) := by
  refine Eq.trans ?_ (Fin.sum_univ_eight (M := EReal) fun s => x (ix3 s (j 0) (j 1))).symm
  pointwise [added, k0_pay2]

/-- What it writes, entry by entry. -/
theorem moment1 (x : FVec Ideal S256x640 .f32) (c : Dev nD) (u : FVec Ideal S256x640 .f32) (j) :
    k0_pay5 (F := Ideal) x c (Dev.word c) 2#32 4#32 u j = Adam.first (u j) (x (ix2 (j 0) (column c (j 1)))) := by
  rw [← rotated x c j]; pointwise [k0_pay5, Adam.first]
theorem moment2 (x : FVec Ideal S256x640 .f32) (c : Dev nD) (u : FVec Ideal S256x640 .f32) (j) :
    k0_pay6 (F := Ideal) x c (Dev.word c) 2#32 4#32 u j = Adam.second (u j) (x (ix2 (j 0) (column c (j 1)))) := by
  rw [← rotated x c j]; pointwise [k0_pay6, Adam.second]
theorem delta (x : FVec Ideal S256x640 .f32) (c : Dev nD) (w a v : FVec Ideal S256x640 .f32) (j) :
    k0_pay1 (F := Ideal) (k0_pay4 w) (k0_pay7 x c (Dev.word c) 2#32 4#32 a) (k0_pay8 x c (Dev.word c) 2#32 4#32 v) j
      = Adam.change (w j) (a j) (v j) (x (ix2 (j 0) (column c (j 1)))) := by
  unfold Adam.change
  rw [← moment1 x c a j, ← moment2 x c v j]
  pointwise [k0_pay1, k0_pay4, k0_pay7, k0_pay8]

variable (m : (ℓ : Loc nD τ sig) → Buf (Elt Ideal) ℓ)

/-- Every window moves with the point, a block of rows at a time. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- A point's sum of blocks is the gradient at the block's rows. -/
theorem part (c : Dev nD) (t : Fin cfg0.N) (y : S256x640.Idx) :
    added (iblk m c 3 t) (ix2 (y 0) (column c (y 1)))
      = grad c (m ((c : Thread nD τ).loc main_arg3)) (((cfg0.win 4).blk t).view.emb y) := by
  rw [added_apply]
  refine Finset.sum_congr rfl fun s _ => ?_
  blk_point [iblk, V, idx t]
  refine congrArg (fun q => (column c q).val) (Fin.ext ?_)
  blk_point [idx t]

/-- The four results, each over its whole array. -/
theorem final4 (c : Dev nD) : (dats m 0 c).arrAt 4 (cfgs 0).N = grad c (m ((c : Thread nD τ).loc main_arg3)) := by
  refine (dats m 0 c).arrAt_eq_of_covers 4 _ (by decide +kernel) fun t _ y => ?_
  blk_simp
  rw [after0_4]
  dsimp only [outsAt0]
  frame_out
  exact (rotated (added (iblk m c 3 t)) c _).trans (part m c t _)

theorem final5 (c : Dev nD) : (dats m 0 c).arrAt 5 (cfgs 0).N
    = fun i => Adam.change (m ((c : Thread nD τ).loc main_arg0) i) (m ((c : Thread nD τ).loc main_arg1) i)
        (m ((c : Thread nD τ).loc main_arg2) i) (grad c (m ((c : Thread nD τ).loc main_arg3)) i) := by
  refine (dats m 0 c).arrAt_eq_of_covers 5 _ (by decide +kernel) fun t _ y => ?_
  blk_simp
  rw [after0_5]
  dsimp only [outsAt0]
  frame_out
  refine (delta (added (iblk m c 3 t)) c _ _ _ _).trans ?_
  rw [part m c t]
  congr 1 <;> blk_point [iblk, V, idx t]

theorem final6 (c : Dev nD) : (dats m 0 c).arrAt 6 (cfgs 0).N
    = fun i => Adam.first (m ((c : Thread nD τ).loc main_arg1) i) (grad c (m ((c : Thread nD τ).loc main_arg3)) i) := by
  refine (dats m 0 c).arrAt_eq_of_covers 6 _ (by decide +kernel) fun t _ y => ?_
  blk_simp
  rw [after0_6]
  dsimp only [outsAt0]
  frame_out
  refine (moment1 (added (iblk m c 3 t)) c _ _).trans ?_
  rw [part m c t]
  congr 1 <;> blk_point [iblk, V, idx t]

theorem final7 (c : Dev nD) : (dats m 0 c).arrAt 7 (cfgs 0).N
    = fun i => Adam.second (m ((c : Thread nD τ).loc main_arg2) i) (grad c (m ((c : Thread nD τ).loc main_arg3)) i) := by
  refine (dats m 0 c).arrAt_eq_of_covers 7 _ (by decide +kernel) fun t _ y => ?_
  blk_simp
  rw [after0_7]
  dsimp only [outsAt0]
  frame_out
  refine (moment2 (added (iblk m c 3 t)) c _ _).trans ?_
  rw [part m c t]
  congr 1 <;> blk_point [iblk, V, idx t]

end Cert.Kernel26Ideal.StepIn

end
-- ==== Proof.StepInPlain.lean ====
/-
  The plain step of the input projection's weight, a product with the matrix that picks a device's columns, and the claim.
-/
module

public import proofs.«01_k».proof.Defs
public import proofs.«01_k».proof.Proof.Gen.Kernel26.Frame
public import proofs.«01_k».proof.Proof.Gen.Reference26Ideal.Run
public import proofs.«01_k».proof.Proof.Gen.Reference26Ideal.Read
public import proofs.«01_k».proof.Proof.StepIn
public import proofs.«01_k».proof.Proof.Words
public import Idealize.ShloMosaic.Lib.Pipeline.ValueKit
public import Idealize.ShloMosaic.Lib.Pointwise
public import Idealize.ShloMosaic.Lib.Claim
public import proofs.«01_k».proof.Proof.Adam

@[expose] public section

set_option maxRecDepth 16384

noncomputable section

open Idealize.ShloMosaic Idealize.ShloMosaic.TcCoe Idealize.SL.Sem
open Idealize.ShloMosaic.Pipeline (Dat)

namespace Cert.Proof

open Cert.Kernel26Ideal.StepIn Cert.Reference26Ideal Cert.Reference26Ideal.Read

/-- The word at which a device's window starts, -/
theorem step_in_start : ∀ c : Fin 8, val_main_v20 (F := Ideal) c ix0 = BitVec.ofNat 32 (offset c) := by
  decide +kernel

/-- and the remainder that names a column of it, device by device and column by column. -/
theorem step_in_rem : ∀ (c : Fin 8) (q : Fin 640), IntOp.remsi .host
    (IntOp.addi (BitVec.ofNat 32 (offset c)) (BitVec.ofNat 32 q.val)) 640#32 = BitVec.ofNat 32 (column c q).val := by
  decide +kernel

theorem step_in_word (c : Fin 8) (q : Fin 640) :
    val_main_v25 (F := Ideal) c (ix1 q) = BitVec.ofNat 32 (column c q).val := by
  rw [← step_in_rem, ← step_in_start]
  pointwise [val_main_v25, val_main_v23, val_main_v24, val_main_v22, val_main_v21, val_main_c_9]

/-- The matrix that picks: one where the row is the device's column, zero elsewhere. -/
theorem step_in_pick (c : Fin 8) (k q : Fin 640) :
    val_main_v32 (F := Ideal) c (ix2 k q) = (if k = column c q then 1 else 0 : EReal) := by
  have h : val_main_v31 (F := Ideal) c (ix2 k q) = if k = column c q then 1#1 else 0#1 := by
    have e : val_main_v31 (F := Ideal) c (ix2 k q)
        = IntOp.cmpi .eq (BitVec.ofNat 32 k.val) (val_main_v25 (F := Ideal) c (ix1 q)) := by
      pointwise [val_main_v31, val_main_v29, val_main_v27, val_main_v26, val_main_v30, val_main_v28]
    rw [e, step_in_word]
    simp only [IntOp.cmpi]
    by_cases hk : k = column c q
    · rw [if_pos hk, hk, beq_self_eq_true]; rfl
    · have hn : BitVec.ofNat 32 k.val ≠ BitVec.ofNat 32 (column c q).val := fun e' => hk (Fin.ext (by
        have := congrArg BitVec.toNat e'
        rw [BitVec.toNat_ofNat, BitVec.toNat_ofNat] at this
        have := k.isLt; have := (column c q).isLt; omega))
      rw [if_neg hk, beq_eq_false_iff_ne.mpr hn]; rfl
  rw [val_main_v32_apply, h]
  split_ifs
  · show (((1#1 : BitVec 1).toNat : ℝ) : EReal) = 1
    norm_num
  · show (((0#1 : BitVec 1).toNat : ℝ) : EReal) = 0
    norm_num

/-- The eight parts added. -/
theorem step_in_total (x : FVec Ideal S8x2048x640 .bf16) (r : Fin 2048) (k : Fin 640) :
    val_main_v34 (F := Ideal) x (ix2 r k) = ∑ s : Fin 8, x (ix3 s r k) := by
  pointwise! [val_main_v34, val_main_v33, val_main_cst]

/-- A row times that matrix is the row at the device's columns. -/
theorem step_in_dot (c : Fin 8) (a : Fin 640 → EReal) (q : Fin 640) :
    ∑ k : Fin 640, a k * (if k = column c q then 1 else 0 : EReal) = a (column c q) := by
  simp only [mul_ite, mul_one, mul_zero, Finset.sum_ite_eq', Finset.mem_univ, if_true]

theorem step_in_single (c : Fin 8) (x : FVec Ideal S8x2048x640 .bf16) (i) :
    val_main_v37 (F := Ideal) c x i = val_main_v35 (F := Ideal) c x i := by
  pointwise! [val_main_v37, val_main_v36, val_main_cst_10]
  exact Fin.sum_univ_one _

/-- The plain step's gradient, -/
theorem step_in_grad (c : Fin 8) (x) : val_main_v37 (F := Ideal) c x = grad c x := by
  funext i
  rw [step_in_single, val_main_v35_apply]
  refine Eq.trans (Finset.sum_congr rfl fun k _ => ?_)
    ((step_in_dot c (fun k => ∑ s : Fin 8, x (ix3 s (i 0) k)) (i 1)).trans rfl)
  have hl : lidx_main_v35 i k = ix2 (i 0) k := funext fun a => match a with | ⟨0, _⟩ => rfl | ⟨1, _⟩ => rfl
  have hr : ridx_main_v35 i k = ix2 k (i 1) := funext fun a => match a with | ⟨0, _⟩ => rfl | ⟨1, _⟩ => rfl
  rw [hl, hr]
  exact congrArg₂ (· * ·) (step_in_total x (i 0) k) (step_in_pick c k (i 1))

/-- and its three other results entry by entry. -/
theorem step_in_first (c : Fin 8) (a x) :
    val_main_v42 (F := Ideal) c a x = fun i => Cert.Adam.first (a i) (grad c x i) := by
  funext i; rw [← step_in_grad]; rfl
theorem step_in_second (c : Fin 8) (v x) :
    val_main_v48 (F := Ideal) c v x = fun i => Cert.Adam.second (v i) (grad c x i) := by
  funext i; rw [← step_in_grad]; rfl
theorem step_in_change (c : Fin 8) (w a v x) :
    val_main_v61 (F := Ideal) c w a v x = fun i => Cert.Adam.change (w i) (a i) (v i) (grad c x i) := by
  funext i; rw [← step_in_grad]; rfl

/-- The plain step's run, its results so named. -/
theorem step_in_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37) = grad c (m ((c.tc : Thread nD τ).loc main_arg3))
      ∧ r.2.mem ((c.tc : Thread nD τ).loc main_v61)
        = (fun i => Cert.Adam.change (m ((c.tc : Thread nD τ).loc main_arg0) i) (m ((c.tc : Thread nD τ).loc main_arg1) i)
            (m ((c.tc : Thread nD τ).loc main_arg2) i) (grad c (m ((c.tc : Thread nD τ).loc main_arg3)) i))
      ∧ r.2.mem ((c.tc : Thread nD τ).loc main_v42)
        = (fun i => Cert.Adam.first (m ((c.tc : Thread nD τ).loc main_arg1) i) (grad c (m ((c.tc : Thread nD τ).loc main_arg3)) i))
      ∧ r.2.mem ((c.tc : Thread nD τ).loc main_v48)
        = (fun i => Cert.Adam.second (m ((c.tc : Thread nD τ).loc main_arg2) i) (grad c (m ((c.tc : Thread nD τ).loc main_arg3)) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (step_in_grad c _),
      (h c).2.1.trans ((val_main_v61_eq _ _).trans (step_in_change c _ _ _ _)),
      (h c).2.2.1.trans (step_in_first c _ _),
      (h c).2.2.2.1.trans (step_in_second c _ _),
      (h c).2.2.2.2⟩)
    (Cert.Reference26Ideal.Value.run (F := Ideal) m ρ)

theorem step_in_algebraic : Cert.algebraic_Kernel26Ideal_Reference26Ideal := by
  pair_intro
  · run_from Cert.Kernel26Ideal.Gen.run_main m g
  · run_from step_in_run m' g'
    · exact (final4 m c).symm
    · exact (final5 m c).symm
    · exact (final6 m c).symm
    · exact (final7 m c).symm

theorem step_in_frame : Cert.quiescent_Kernel26 := fun m ρ _ => Cert.Kernel26.Gen.frame m ρ
theorem step_in_frame_ideal : Cert.quiescent_Kernel26Ideal := fun m ρ _ => Cert.Kernel26Ideal.Gen.frame m ρ
theorem step_in_frame_reference : Cert.quiescent_Reference26Ideal := fun m ρ _ =>
  (θ_run Cert.Reference26Ideal.defs _ _).mono (fun r h => ⟨fun c => (h c).2.2.2.2,
      Idealize.ShloMosaic.sem_eq_zero_of_no_sems (by decide) r.2⟩)
    (Cert.Reference26Ideal.Value.run (F := Ideal) m ρ)

end Cert.Proof

end
-- ==== Proof.lean ====
/-
  The certificate: the frames of the programs and the equality of each kernel's results with its reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.GateClaim
public import proofs.«01_k».proof.Proof.AttentionClaim
public import proofs.«01_k».proof.Proof.DownWeight
public import proofs.«01_k».proof.Proof.UpWeight
public import proofs.«01_k».proof.Proof.GateInput
public import proofs.«01_k».proof.Proof.GateForward
public import proofs.«01_k».proof.Proof.DownForward
public import proofs.«01_k».proof.Proof.MixerInput
public import proofs.«01_k».proof.Proof.ProjectQkv
public import proofs.«01_k».proof.Proof.ProjectRest
public import proofs.«01_k».proof.Proof.AttentionCotangent
public import proofs.«01_k».proof.Proof.MixCotangent
public import proofs.«01_k».proof.Proof.ProjectOut
public import proofs.«01_k».proof.Proof.OutWeight
public import proofs.«01_k».proof.Proof.QkvWeight
public import proofs.«01_k».proof.Proof.NarrowWeight
public import proofs.«01_k».proof.Proof.WideWeight
public import proofs.«01_k».proof.Proof.StepWeight
public import proofs.«01_k».proof.Proof.StepOut
public import proofs.«01_k».proof.Proof.StepDown
public import proofs.«01_k».proof.Proof.StepGate
public import proofs.«01_k».proof.Proof.StepSmall
public import proofs.«01_k».proof.Proof.StepConv
public import proofs.«01_k».proof.Proof.NormGrad
public import proofs.«01_k».proof.Proof.FinalLoss
public import proofs.«01_k».proof.Proof.StepInPlain
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Pre_finite.Gen.facts,
    gate_frame, gate_frame_ideal, gate_frame_finite, gate_frame_reference, gate_frame_reference_finite,
    attention_frame, attention_frame_ideal, attention_frame_reference,
    down_frame, down_frame_ideal, down_frame_reference,
    up_frame, up_frame_ideal, up_frame_reference,
    input_frame, input_frame_ideal, input_frame_reference,
    forward_frame, forward_frame_ideal, forward_frame_reference,
    residual_frame, residual_frame_ideal, residual_frame_reference,
    mixer_frame, mixer_frame_ideal, mixer_frame_reference,
    qkv_frame, qkv_frame_ideal, qkv_frame_reference,
    rest_frame, rest_frame_ideal, rest_frame_reference,
    cotangent_frame, cotangent_frame_ideal, cotangent_frame_reference,
    mix_frame, mix_frame_ideal, mix_frame_reference,
    project_frame, project_frame_ideal, project_frame_reference,
    out_weight_frame, out_weight_frame_ideal, out_weight_frame_reference,
    norm_grad_frame, norm_grad_frame_ideal, norm_grad_frame_reference,
    qkv_weight_frame, qkv_weight_frame_ideal, qkv_weight_frame_reference,
    narrow_weight_frame, narrow_weight_frame_ideal, narrow_weight_frame_reference,
    wide_weight_frame, wide_weight_frame_ideal, wide_weight_frame_reference,
    step_weight_frame, step_weight_frame_ideal, step_weight_frame_reference,
    step_out_frame, step_out_frame_ideal, step_out_frame_reference,
    step_down_frame, step_down_frame_ideal, step_down_frame_reference,
    step_gate_frame, step_gate_frame_ideal, step_gate_frame_reference,
    step_small_frame, step_small_frame_ideal, step_small_frame_reference,
    step_conv_frame, step_conv_frame_ideal, step_conv_frame_reference,
    final_loss_frame, final_loss_frame_ideal, final_loss_frame_reference,
    step_in_frame, step_in_frame_ideal, step_in_frame_reference,
    trivial, gate_algebraic, attention_preserves, attention_algebraic,
    trivial, down_algebraic,
    trivial, up_algebraic,
    trivial, input_algebraic,
    trivial, forward_algebraic,
    trivial, residual_algebraic,
    trivial, mixer_algebraic,
    trivial, qkv_algebraic,
    trivial, rest_algebraic,
    trivial, cotangent_algebraic,
    trivial, mix_algebraic,
    trivial, project_algebraic,
    trivial, out_weight_algebraic,
    trivial, norm_grad_algebraic,
    trivial, qkv_weight_algebraic,
    trivial, narrow_weight_algebraic,
    trivial, wide_weight_algebraic,
    trivial, step_weight_algebraic,
    trivial, step_out_algebraic,
    trivial, step_down_algebraic,
    trivial, step_gate_algebraic,
    trivial, step_small_algebraic,
    trivial, step_conv_algebraic,
    trivial, final_loss_algebraic,
    trivial, step_in_algebraic⟩

end Cert.Proof

end
